-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_SeqKernel (m : (ℓ : Loc Cert.SeqKernel.nD Cert.SeqKernel.τ Cert.SeqKernel.sig) → Buf (Elt Bits) ℓ) : Prop :=
  True

def Pre_SeqKernelIdeal (m : (ℓ : Loc Cert.SeqKernelIdeal.nD Cert.SeqKernelIdeal.τ Cert.SeqKernelIdeal.sig) → Buf (Elt Ideal) ℓ) : Prop :=
  True

def Pre_SeqReferenceIdeal (m : (ℓ : Loc Cert.SeqReferenceIdeal.nD Cert.SeqReferenceIdeal.τ Cert.SeqReferenceIdeal.sig) → Buf (Elt Ideal) ℓ) : Prop :=
  True

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_TapsKernel (m : (ℓ : Loc Cert.TapsKernel.nD Cert.TapsKernel.τ Cert.TapsKernel.sig) → Buf (Elt Bits) ℓ) : Prop :=
  True

def Pre_TapsKernelIdeal (m : (ℓ : Loc Cert.TapsKernelIdeal.nD Cert.TapsKernelIdeal.τ Cert.TapsKernelIdeal.sig) → Buf (Elt Ideal) ℓ) : Prop :=
  True

def Pre_TapsReferenceIdeal (m : (ℓ : Loc Cert.TapsReferenceIdeal.nD Cert.TapsReferenceIdeal.τ Cert.TapsReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1))
      ∧ r.2.sem = fun _ => 0)

def quiescent_SeqKernel [hSeqKernel : Cert.SeqKernel.Facts] : Prop :=
  ∀ (m : (ℓ : Loc Cert.SeqKernel.nD Cert.SeqKernel.τ Cert.SeqKernel.sig) → Buf (Elt Bits) ℓ) (g : Dev Cert.SeqKernel.nD → PrngReg), Pre_SeqKernel m →
    θ_run (Cert.SeqKernel.defs (F := Bits)) (onTc (τ := Cert.SeqKernel.τ) (Cert.SeqKernel.main (F := Bits))) ⟨m, fun _ => 0, g⟩ (fun r => (∀ c : Dev Cert.SeqKernel.nD,
      r.2.mem ((c.tc : Thread Cert.SeqKernel.nD Cert.SeqKernel.τ).loc Cert.SeqKernel.main_arg0) = m ((c.tc : Thread Cert.SeqKernel.nD Cert.SeqKernel.τ).loc Cert.SeqKernel.main_arg0)
      ∧ r.2.mem ((c.tc : Thread Cert.SeqKernel.nD Cert.SeqKernel.τ).loc Cert.SeqKernel.main_arg1) = m ((c.tc : Thread Cert.SeqKernel.nD Cert.SeqKernel.τ).loc Cert.SeqKernel.main_arg1))
      ∧ r.2.sem = fun _ => 0)

def quiescent_SeqKernelIdeal [hSeqKernelIdeal : Cert.SeqKernelIdeal.Facts] : Prop :=
  ∀ (m : (ℓ : Loc Cert.SeqKernelIdeal.nD Cert.SeqKernelIdeal.τ Cert.SeqKernelIdeal.sig) → Buf (Elt Ideal) ℓ) (g : Dev Cert.SeqKernelIdeal.nD → PrngReg), Pre_SeqKernelIdeal m →
    θ_run (Cert.SeqKernelIdeal.defs (F := Ideal)) (onTc (τ := Cert.SeqKernelIdeal.τ) (Cert.SeqKernelIdeal.main (F := Ideal))) ⟨m, fun _ => 0, g⟩ (fun r => (∀ c : Dev Cert.SeqKernelIdeal.nD,
      r.2.mem ((c.tc : Thread Cert.SeqKernelIdeal.nD Cert.SeqKernelIdeal.τ).loc Cert.SeqKernelIdeal.main_arg0) = m ((c.tc : Thread Cert.SeqKernelIdeal.nD Cert.SeqKernelIdeal.τ).loc Cert.SeqKernelIdeal.main_arg0)
      ∧ r.2.mem ((c.tc : Thread Cert.SeqKernelIdeal.nD Cert.SeqKernelIdeal.τ).loc Cert.SeqKernelIdeal.main_arg1) = m ((c.tc : Thread Cert.SeqKernelIdeal.nD Cert.SeqKernelIdeal.τ).loc Cert.SeqKernelIdeal.main_arg1))
      ∧ r.2.sem = fun _ => 0)

def quiescent_SeqReferenceIdeal [hSeqReferenceIdeal : Cert.SeqReferenceIdeal.Facts] : Prop :=
  ∀ (m : (ℓ : Loc Cert.SeqReferenceIdeal.nD Cert.SeqReferenceIdeal.τ Cert.SeqReferenceIdeal.sig) → Buf (Elt Ideal) ℓ) (g : Dev Cert.SeqReferenceIdeal.nD → PrngReg), Pre_SeqReferenceIdeal m →
    θ_run (Cert.SeqReferenceIdeal.defs (F := Ideal)) (onTc (τ := Cert.SeqReferenceIdeal.τ) (Cert.SeqReferenceIdeal.main (F := Ideal))) ⟨m, fun _ => 0, g⟩ (fun r => (∀ c : Dev Cert.SeqReferenceIdeal.nD,
      r.2.mem ((c.tc : Thread Cert.SeqReferenceIdeal.nD Cert.SeqReferenceIdeal.τ).loc Cert.SeqReferenceIdeal.main_arg0) = m ((c.tc : Thread Cert.SeqReferenceIdeal.nD Cert.SeqReferenceIdeal.τ).loc Cert.SeqReferenceIdeal.main_arg0)
      ∧ r.2.mem ((c.tc : Thread Cert.SeqReferenceIdeal.nD Cert.SeqReferenceIdeal.τ).loc Cert.SeqReferenceIdeal.main_arg1) = m ((c.tc : Thread Cert.SeqReferenceIdeal.nD Cert.SeqReferenceIdeal.τ).loc Cert.SeqReferenceIdeal.main_arg1))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_TapsKernel [hTapsKernel : Cert.TapsKernel.Facts] : Prop :=
  ∀ (m : (ℓ : Loc Cert.TapsKernel.nD Cert.TapsKernel.τ Cert.TapsKernel.sig) → Buf (Elt Bits) ℓ) (g : Dev Cert.TapsKernel.nD → PrngReg), Pre_TapsKernel m →
    θ_run (Cert.TapsKernel.defs (F := Bits)) (onTc (τ := Cert.TapsKernel.τ) (Cert.TapsKernel.main (F := Bits))) ⟨m, fun _ => 0, g⟩ (fun r => (∀ c : Dev Cert.TapsKernel.nD,
      r.2.mem ((c.tc : Thread Cert.TapsKernel.nD Cert.TapsKernel.τ).loc Cert.TapsKernel.main_arg0) = m ((c.tc : Thread Cert.TapsKernel.nD Cert.TapsKernel.τ).loc Cert.TapsKernel.main_arg0)
      ∧ r.2.mem ((c.tc : Thread Cert.TapsKernel.nD Cert.TapsKernel.τ).loc Cert.TapsKernel.main_arg1) = m ((c.tc : Thread Cert.TapsKernel.nD Cert.TapsKernel.τ).loc Cert.TapsKernel.main_arg1)
      ∧ r.2.mem ((c.tc : Thread Cert.TapsKernel.nD Cert.TapsKernel.τ).loc Cert.TapsKernel.main_arg2) = m ((c.tc : Thread Cert.TapsKernel.nD Cert.TapsKernel.τ).loc Cert.TapsKernel.main_arg2)
      ∧ r.2.mem ((c.tc : Thread Cert.TapsKernel.nD Cert.TapsKernel.τ).loc Cert.TapsKernel.main_arg3) = m ((c.tc : Thread Cert.TapsKernel.nD Cert.TapsKernel.τ).loc Cert.TapsKernel.main_arg3)
      ∧ r.2.mem ((c.tc : Thread Cert.TapsKernel.nD Cert.TapsKernel.τ).loc Cert.TapsKernel.main_arg4) = m ((c.tc : Thread Cert.TapsKernel.nD Cert.TapsKernel.τ).loc Cert.TapsKernel.main_arg4)
      ∧ r.2.mem ((c.tc : Thread Cert.TapsKernel.nD Cert.TapsKernel.τ).loc Cert.TapsKernel.main_arg5) = m ((c.tc : Thread Cert.TapsKernel.nD Cert.TapsKernel.τ).loc Cert.TapsKernel.main_arg5)
      ∧ r.2.mem ((c.tc : Thread Cert.TapsKernel.nD Cert.TapsKernel.τ).loc Cert.TapsKernel.main_arg6) = m ((c.tc : Thread Cert.TapsKernel.nD Cert.TapsKernel.τ).loc Cert.TapsKernel.main_arg6)
      ∧ r.2.mem ((c.tc : Thread Cert.TapsKernel.nD Cert.TapsKernel.τ).loc Cert.TapsKernel.main_arg7) = m ((c.tc : Thread Cert.TapsKernel.nD Cert.TapsKernel.τ).loc Cert.TapsKernel.main_arg7)
      ∧ r.2.mem ((c.tc : Thread Cert.TapsKernel.nD Cert.TapsKernel.τ).loc Cert.TapsKernel.main_arg8) = m ((c.tc : Thread Cert.TapsKernel.nD Cert.TapsKernel.τ).loc Cert.TapsKernel.main_arg8))
      ∧ r.2.sem = fun _ => 0)

def quiescent_TapsKernelIdeal [hTapsKernelIdeal : Cert.TapsKernelIdeal.Facts] : Prop :=
  ∀ (m : (ℓ : Loc Cert.TapsKernelIdeal.nD Cert.TapsKernelIdeal.τ Cert.TapsKernelIdeal.sig) → Buf (Elt Ideal) ℓ) (g : Dev Cert.TapsKernelIdeal.nD → PrngReg), Pre_TapsKernelIdeal m →
    θ_run (Cert.TapsKernelIdeal.defs (F := Ideal)) (onTc (τ := Cert.TapsKernelIdeal.τ) (Cert.TapsKernelIdeal.main (F := Ideal))) ⟨m, fun _ => 0, g⟩ (fun r => (∀ c : Dev Cert.TapsKernelIdeal.nD,
      r.2.mem ((c.tc : Thread Cert.TapsKernelIdeal.nD Cert.TapsKernelIdeal.τ).loc Cert.TapsKernelIdeal.main_arg0) = m ((c.tc : Thread Cert.TapsKernelIdeal.nD Cert.TapsKernelIdeal.τ).loc Cert.TapsKernelIdeal.main_arg0)
      ∧ r.2.mem ((c.tc : Thread Cert.TapsKernelIdeal.nD Cert.TapsKernelIdeal.τ).loc Cert.TapsKernelIdeal.main_arg1) = m ((c.tc : Thread Cert.TapsKernelIdeal.nD Cert.TapsKernelIdeal.τ).loc Cert.TapsKernelIdeal.main_arg1)
      ∧ r.2.mem ((c.tc : Thread Cert.TapsKernelIdeal.nD Cert.TapsKernelIdeal.τ).loc Cert.TapsKernelIdeal.main_arg2) = m ((c.tc : Thread Cert.TapsKernelIdeal.nD Cert.TapsKernelIdeal.τ).loc Cert.TapsKernelIdeal.main_arg2)
      ∧ r.2.mem ((c.tc : Thread Cert.TapsKernelIdeal.nD Cert.TapsKernelIdeal.τ).loc Cert.TapsKernelIdeal.main_arg3) = m ((c.tc : Thread Cert.TapsKernelIdeal.nD Cert.TapsKernelIdeal.τ).loc Cert.TapsKernelIdeal.main_arg3)
      ∧ r.2.mem ((c.tc : Thread Cert.TapsKernelIdeal.nD Cert.TapsKernelIdeal.τ).loc Cert.TapsKernelIdeal.main_arg4) = m ((c.tc : Thread Cert.TapsKernelIdeal.nD Cert.TapsKernelIdeal.τ).loc Cert.TapsKernelIdeal.main_arg4)
      ∧ r.2.mem ((c.tc : Thread Cert.TapsKernelIdeal.nD Cert.TapsKernelIdeal.τ).loc Cert.TapsKernelIdeal.main_arg5) = m ((c.tc : Thread Cert.TapsKernelIdeal.nD Cert.TapsKernelIdeal.τ).loc Cert.TapsKernelIdeal.main_arg5)
      ∧ r.2.mem ((c.tc : Thread Cert.TapsKernelIdeal.nD Cert.TapsKernelIdeal.τ).loc Cert.TapsKernelIdeal.main_arg6) = m ((c.tc : Thread Cert.TapsKernelIdeal.nD Cert.TapsKernelIdeal.τ).loc Cert.TapsKernelIdeal.main_arg6)
      ∧ r.2.mem ((c.tc : Thread Cert.TapsKernelIdeal.nD Cert.TapsKernelIdeal.τ).loc Cert.TapsKernelIdeal.main_arg7) = m ((c.tc : Thread Cert.TapsKernelIdeal.nD Cert.TapsKernelIdeal.τ).loc Cert.TapsKernelIdeal.main_arg7)
      ∧ r.2.mem ((c.tc : Thread Cert.TapsKernelIdeal.nD Cert.TapsKernelIdeal.τ).loc Cert.TapsKernelIdeal.main_arg8) = m ((c.tc : Thread Cert.TapsKernelIdeal.nD Cert.TapsKernelIdeal.τ).loc Cert.TapsKernelIdeal.main_arg8))
      ∧ r.2.sem = fun _ => 0)

def quiescent_TapsReferenceIdeal [hTapsReferenceIdeal : Cert.TapsReferenceIdeal.Facts] : Prop :=
  ∀ (m : (ℓ : Loc Cert.TapsReferenceIdeal.nD Cert.TapsReferenceIdeal.τ Cert.TapsReferenceIdeal.sig) → Buf (Elt Ideal) ℓ) (g : Dev Cert.TapsReferenceIdeal.nD → PrngReg), Pre_TapsReferenceIdeal m →
    θ_run (Cert.TapsReferenceIdeal.defs (F := Ideal)) (onTc (τ := Cert.TapsReferenceIdeal.τ) (Cert.TapsReferenceIdeal.main (F := Ideal))) ⟨m, fun _ => 0, g⟩ (fun r => (∀ c : Dev Cert.TapsReferenceIdeal.nD,
      r.2.mem ((c.tc : Thread Cert.TapsReferenceIdeal.nD Cert.TapsReferenceIdeal.τ).loc Cert.TapsReferenceIdeal.main_arg0) = m ((c.tc : Thread Cert.TapsReferenceIdeal.nD Cert.TapsReferenceIdeal.τ).loc Cert.TapsReferenceIdeal.main_arg0)
      ∧ r.2.mem ((c.tc : Thread Cert.TapsReferenceIdeal.nD Cert.TapsReferenceIdeal.τ).loc Cert.TapsReferenceIdeal.main_arg1) = m ((c.tc : Thread Cert.TapsReferenceIdeal.nD Cert.TapsReferenceIdeal.τ).loc Cert.TapsReferenceIdeal.main_arg1)
      ∧ r.2.mem ((c.tc : Thread Cert.TapsReferenceIdeal.nD Cert.TapsReferenceIdeal.τ).loc Cert.TapsReferenceIdeal.main_arg2) = m ((c.tc : Thread Cert.TapsReferenceIdeal.nD Cert.TapsReferenceIdeal.τ).loc Cert.TapsReferenceIdeal.main_arg2)
      ∧ r.2.mem ((c.tc : Thread Cert.TapsReferenceIdeal.nD Cert.TapsReferenceIdeal.τ).loc Cert.TapsReferenceIdeal.main_arg3) = m ((c.tc : Thread Cert.TapsReferenceIdeal.nD Cert.TapsReferenceIdeal.τ).loc Cert.TapsReferenceIdeal.main_arg3)
      ∧ r.2.mem ((c.tc : Thread Cert.TapsReferenceIdeal.nD Cert.TapsReferenceIdeal.τ).loc Cert.TapsReferenceIdeal.main_arg4) = m ((c.tc : Thread Cert.TapsReferenceIdeal.nD Cert.TapsReferenceIdeal.τ).loc Cert.TapsReferenceIdeal.main_arg4)
      ∧ r.2.mem ((c.tc : Thread Cert.TapsReferenceIdeal.nD Cert.TapsReferenceIdeal.τ).loc Cert.TapsReferenceIdeal.main_arg5) = m ((c.tc : Thread Cert.TapsReferenceIdeal.nD Cert.TapsReferenceIdeal.τ).loc Cert.TapsReferenceIdeal.main_arg5)
      ∧ r.2.mem ((c.tc : Thread Cert.TapsReferenceIdeal.nD Cert.TapsReferenceIdeal.τ).loc Cert.TapsReferenceIdeal.main_arg6) = m ((c.tc : Thread Cert.TapsReferenceIdeal.nD Cert.TapsReferenceIdeal.τ).loc Cert.TapsReferenceIdeal.main_arg6)
      ∧ r.2.mem ((c.tc : Thread Cert.TapsReferenceIdeal.nD Cert.TapsReferenceIdeal.τ).loc Cert.TapsReferenceIdeal.main_arg7) = m ((c.tc : Thread Cert.TapsReferenceIdeal.nD Cert.TapsReferenceIdeal.τ).loc Cert.TapsReferenceIdeal.main_arg7)
      ∧ r.2.mem ((c.tc : Thread Cert.TapsReferenceIdeal.nD Cert.TapsReferenceIdeal.τ).loc Cert.TapsReferenceIdeal.main_arg8) = m ((c.tc : Thread Cert.TapsReferenceIdeal.nD Cert.TapsReferenceIdeal.τ).loc Cert.TapsReferenceIdeal.main_arg8))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def preserves_Kernel_KernelIdeal : Prop :=
  IdealRules.named_const.Statement Cert.KernelIdeal.κ "state_min" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v14)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v14) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v60) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v2) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)) →
    ∃ (v0 : (c : Dev Cert.FinalKernelIdeal.nD) → Buf (Elt Ideal) ((c.tc : Thread Cert.FinalKernelIdeal.nD Cert.FinalKernelIdeal.τ).loc Cert.FinalKernelIdeal.main_v3)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v3) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v18) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_QueryKernel_QueryKernelIdeal : Prop :=
  True

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)) →
    ∃ (v0 : (c : Dev Cert.QueryKernelIdeal.nD) → Buf (Elt Ideal) ((c.tc : Thread Cert.QueryKernelIdeal.nD Cert.QueryKernelIdeal.τ).loc Cert.QueryKernelIdeal.main_v1)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v1) = v0 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v2) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v8_0)) (v1 : (c : Dev Cert.OutKernelIdeal.nD) → Buf (Elt Ideal) ((c.tc : Thread Cert.OutKernelIdeal.nD Cert.OutKernelIdeal.τ).loc Cert.OutKernelIdeal.main_v8_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v8_0) = v0 c
          ∧ r.2.mem ((c.tc : Thread Cert.OutKernelIdeal.nD Cert.OutKernelIdeal.τ).loc Cert.OutKernelIdeal.main_v8_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_v33) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)) →
    ∃ (v0 : (c : Dev Cert.ConvKernelIdeal.nD) → Buf (Elt Ideal) ((c.tc : Thread Cert.ConvKernelIdeal.nD Cert.ConvKernelIdeal.τ).loc Cert.ConvKernelIdeal.main_v1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v1) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v99) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1))

def preserves_SeqKernel_SeqKernelIdeal : Prop :=
  True

def algebraic_SeqKernelIdeal_SeqReferenceIdeal [hSeqKernelIdeal : Cert.SeqKernelIdeal.Facts] [hSeqReferenceIdeal : Cert.SeqReferenceIdeal.Facts] : Prop :=
  ∀ (m : (ℓ : Loc Cert.SeqKernelIdeal.nD Cert.SeqKernelIdeal.τ Cert.SeqKernelIdeal.sig) → Buf (Elt Ideal) ℓ) (g : Dev Cert.SeqKernelIdeal.nD → PrngReg)
    (m' : (ℓ : Loc Cert.SeqReferenceIdeal.nD Cert.SeqReferenceIdeal.τ Cert.SeqReferenceIdeal.sig) → Buf (Elt Ideal) ℓ) (g' : Dev Cert.SeqReferenceIdeal.nD → PrngReg), Pre_SeqKernelIdeal m →
    (∀ c : Dev Cert.SeqKernelIdeal.nD,
      m' ((c.tc : Thread Cert.SeqReferenceIdeal.nD Cert.SeqReferenceIdeal.τ).loc Cert.SeqReferenceIdeal.main_arg0) = m ((c.tc : Thread Cert.SeqKernelIdeal.nD Cert.SeqKernelIdeal.τ).loc Cert.SeqKernelIdeal.main_arg0)
      ∧ m' ((c.tc : Thread Cert.SeqReferenceIdeal.nD Cert.SeqReferenceIdeal.τ).loc Cert.SeqReferenceIdeal.main_arg1) = m ((c.tc : Thread Cert.SeqKernelIdeal.nD Cert.SeqKernelIdeal.τ).loc Cert.SeqKernelIdeal.main_arg1)) →
    ∃ (v0 : (c : Dev Cert.SeqKernelIdeal.nD) → Buf (Elt Ideal) ((c.tc : Thread Cert.SeqKernelIdeal.nD Cert.SeqKernelIdeal.τ).loc Cert.SeqKernelIdeal.main_v0)),
      θ_run (Cert.SeqKernelIdeal.defs (F := Ideal)) (onTc (τ := Cert.SeqKernelIdeal.τ) (Cert.SeqKernelIdeal.main (F := Ideal))) ⟨m, fun _ => 0, g⟩ (fun r => ∀ c : Dev Cert.SeqKernelIdeal.nD,
          r.2.mem ((c.tc : Thread Cert.SeqKernelIdeal.nD Cert.SeqKernelIdeal.τ).loc Cert.SeqKernelIdeal.main_v0) = v0 c
          ∧ r.2.mem ((c.tc : Thread Cert.SeqKernelIdeal.nD Cert.SeqKernelIdeal.τ).loc Cert.SeqKernelIdeal.main_arg0) = m ((c.tc : Thread Cert.SeqKernelIdeal.nD Cert.SeqKernelIdeal.τ).loc Cert.SeqKernelIdeal.main_arg0)
          ∧ r.2.mem ((c.tc : Thread Cert.SeqKernelIdeal.nD Cert.SeqKernelIdeal.τ).loc Cert.SeqKernelIdeal.main_arg1) = m ((c.tc : Thread Cert.SeqKernelIdeal.nD Cert.SeqKernelIdeal.τ).loc Cert.SeqKernelIdeal.main_arg1))
      ∧ θ_run (Cert.SeqReferenceIdeal.defs (F := Ideal)) (onTc (τ := Cert.SeqReferenceIdeal.τ) (Cert.SeqReferenceIdeal.main (F := Ideal))) ⟨m', fun _ => 0, g'⟩ (fun r => ∀ c : Dev Cert.SeqReferenceIdeal.nD,
          r.2.mem ((c.tc : Thread Cert.SeqReferenceIdeal.nD Cert.SeqReferenceIdeal.τ).loc Cert.SeqReferenceIdeal.main_v21) = v0 c
          ∧ r.2.mem ((c.tc : Thread Cert.SeqReferenceIdeal.nD Cert.SeqReferenceIdeal.τ).loc Cert.SeqReferenceIdeal.main_arg0) = m' ((c.tc : Thread Cert.SeqReferenceIdeal.nD Cert.SeqReferenceIdeal.τ).loc Cert.SeqReferenceIdeal.main_arg0)
          ∧ r.2.mem ((c.tc : Thread Cert.SeqReferenceIdeal.nD Cert.SeqReferenceIdeal.τ).loc Cert.SeqReferenceIdeal.main_arg1) = m' ((c.tc : Thread Cert.SeqReferenceIdeal.nD Cert.SeqReferenceIdeal.τ).loc Cert.SeqReferenceIdeal.main_arg1))

def preserves_HeadKernel_HeadKernelIdeal : Prop :=
  True

def algebraic_HeadKernelIdeal_HeadReferenceIdeal [hHeadKernelIdeal : Cert.HeadKernelIdeal.Facts] [hHeadReferenceIdeal : Cert.HeadReferenceIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)) →
    ∃ (v0 : (c : Dev Cert.HeadKernelIdeal.nD) → Buf (Elt Ideal) ((c.tc : Thread Cert.HeadKernelIdeal.nD Cert.HeadKernelIdeal.τ).loc Cert.HeadKernelIdeal.main_v1)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v1) = v0 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v28) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2))

def preserves_TapsKernel_TapsKernelIdeal : Prop :=
  True

def algebraic_TapsKernelIdeal_TapsReferenceIdeal [hTapsKernelIdeal : Cert.TapsKernelIdeal.Facts] [hTapsReferenceIdeal : Cert.TapsReferenceIdeal.Facts] : Prop :=
  ∀ (m : (ℓ : Loc Cert.TapsKernelIdeal.nD Cert.TapsKernelIdeal.τ Cert.TapsKernelIdeal.sig) → Buf (Elt Ideal) ℓ) (g : Dev Cert.TapsKernelIdeal.nD → PrngReg)
    (m' : (ℓ : Loc Cert.TapsReferenceIdeal.nD Cert.TapsReferenceIdeal.τ Cert.TapsReferenceIdeal.sig) → Buf (Elt Ideal) ℓ) (g' : Dev Cert.TapsReferenceIdeal.nD → PrngReg), Pre_TapsKernelIdeal m →
    (∀ c : Dev Cert.TapsKernelIdeal.nD,
      m' ((c.tc : Thread Cert.TapsReferenceIdeal.nD Cert.TapsReferenceIdeal.τ).loc Cert.TapsReferenceIdeal.main_arg0) = m ((c.tc : Thread Cert.TapsKernelIdeal.nD Cert.TapsKernelIdeal.τ).loc Cert.TapsKernelIdeal.main_arg0)
      ∧ m' ((c.tc : Thread Cert.TapsReferenceIdeal.nD Cert.TapsReferenceIdeal.τ).loc Cert.TapsReferenceIdeal.main_arg1) = m ((c.tc : Thread Cert.TapsKernelIdeal.nD Cert.TapsKernelIdeal.τ).loc Cert.TapsKernelIdeal.main_arg1)
      ∧ m' ((c.tc : Thread Cert.TapsReferenceIdeal.nD Cert.TapsReferenceIdeal.τ).loc Cert.TapsReferenceIdeal.main_arg2) = m ((c.tc : Thread Cert.TapsKernelIdeal.nD Cert.TapsKernelIdeal.τ).loc Cert.TapsKernelIdeal.main_arg2)
      ∧ m' ((c.tc : Thread Cert.TapsReferenceIdeal.nD Cert.TapsReferenceIdeal.τ).loc Cert.TapsReferenceIdeal.main_arg3) = m ((c.tc : Thread Cert.TapsKernelIdeal.nD Cert.TapsKernelIdeal.τ).loc Cert.TapsKernelIdeal.main_arg3)
      ∧ m' ((c.tc : Thread Cert.TapsReferenceIdeal.nD Cert.TapsReferenceIdeal.τ).loc Cert.TapsReferenceIdeal.main_arg4) = m ((c.tc : Thread Cert.TapsKernelIdeal.nD Cert.TapsKernelIdeal.τ).loc Cert.TapsKernelIdeal.main_arg4)
      ∧ m' ((c.tc : Thread Cert.TapsReferenceIdeal.nD Cert.TapsReferenceIdeal.τ).loc Cert.TapsReferenceIdeal.main_arg5) = m ((c.tc : Thread Cert.TapsKernelIdeal.nD Cert.TapsKernelIdeal.τ).loc Cert.TapsKernelIdeal.main_arg5)
      ∧ m' ((c.tc : Thread Cert.TapsReferenceIdeal.nD Cert.TapsReferenceIdeal.τ).loc Cert.TapsReferenceIdeal.main_arg6) = m ((c.tc : Thread Cert.TapsKernelIdeal.nD Cert.TapsKernelIdeal.τ).loc Cert.TapsKernelIdeal.main_arg6)
      ∧ m' ((c.tc : Thread Cert.TapsReferenceIdeal.nD Cert.TapsReferenceIdeal.τ).loc Cert.TapsReferenceIdeal.main_arg7) = m ((c.tc : Thread Cert.TapsKernelIdeal.nD Cert.TapsKernelIdeal.τ).loc Cert.TapsKernelIdeal.main_arg7)
      ∧ m' ((c.tc : Thread Cert.TapsReferenceIdeal.nD Cert.TapsReferenceIdeal.τ).loc Cert.TapsReferenceIdeal.main_arg8) = m ((c.tc : Thread Cert.TapsKernelIdeal.nD Cert.TapsKernelIdeal.τ).loc Cert.TapsKernelIdeal.main_arg8)) →
    ∃ (v0 : (c : Dev Cert.TapsKernelIdeal.nD) → Buf (Elt Ideal) ((c.tc : Thread Cert.TapsKernelIdeal.nD Cert.TapsKernelIdeal.τ).loc Cert.TapsKernelIdeal.main_v10)),
      θ_run (Cert.TapsKernelIdeal.defs (F := Ideal)) (onTc (τ := Cert.TapsKernelIdeal.τ) (Cert.TapsKernelIdeal.main (F := Ideal))) ⟨m, fun _ => 0, g⟩ (fun r => ∀ c : Dev Cert.TapsKernelIdeal.nD,
          r.2.mem ((c.tc : Thread Cert.TapsKernelIdeal.nD Cert.TapsKernelIdeal.τ).loc Cert.TapsKernelIdeal.main_v10) = v0 c
          ∧ r.2.mem ((c.tc : Thread Cert.TapsKernelIdeal.nD Cert.TapsKernelIdeal.τ).loc Cert.TapsKernelIdeal.main_arg0) = m ((c.tc : Thread Cert.TapsKernelIdeal.nD Cert.TapsKernelIdeal.τ).loc Cert.TapsKernelIdeal.main_arg0)
          ∧ r.2.mem ((c.tc : Thread Cert.TapsKernelIdeal.nD Cert.TapsKernelIdeal.τ).loc Cert.TapsKernelIdeal.main_arg1) = m ((c.tc : Thread Cert.TapsKernelIdeal.nD Cert.TapsKernelIdeal.τ).loc Cert.TapsKernelIdeal.main_arg1)
          ∧ r.2.mem ((c.tc : Thread Cert.TapsKernelIdeal.nD Cert.TapsKernelIdeal.τ).loc Cert.TapsKernelIdeal.main_arg2) = m ((c.tc : Thread Cert.TapsKernelIdeal.nD Cert.TapsKernelIdeal.τ).loc Cert.TapsKernelIdeal.main_arg2)
          ∧ r.2.mem ((c.tc : Thread Cert.TapsKernelIdeal.nD Cert.TapsKernelIdeal.τ).loc Cert.TapsKernelIdeal.main_arg3) = m ((c.tc : Thread Cert.TapsKernelIdeal.nD Cert.TapsKernelIdeal.τ).loc Cert.TapsKernelIdeal.main_arg3)
          ∧ r.2.mem ((c.tc : Thread Cert.TapsKernelIdeal.nD Cert.TapsKernelIdeal.τ).loc Cert.TapsKernelIdeal.main_arg4) = m ((c.tc : Thread Cert.TapsKernelIdeal.nD Cert.TapsKernelIdeal.τ).loc Cert.TapsKernelIdeal.main_arg4)
          ∧ r.2.mem ((c.tc : Thread Cert.TapsKernelIdeal.nD Cert.TapsKernelIdeal.τ).loc Cert.TapsKernelIdeal.main_arg5) = m ((c.tc : Thread Cert.TapsKernelIdeal.nD Cert.TapsKernelIdeal.τ).loc Cert.TapsKernelIdeal.main_arg5)
          ∧ r.2.mem ((c.tc : Thread Cert.TapsKernelIdeal.nD Cert.TapsKernelIdeal.τ).loc Cert.TapsKernelIdeal.main_arg6) = m ((c.tc : Thread Cert.TapsKernelIdeal.nD Cert.TapsKernelIdeal.τ).loc Cert.TapsKernelIdeal.main_arg6)
          ∧ r.2.mem ((c.tc : Thread Cert.TapsKernelIdeal.nD Cert.TapsKernelIdeal.τ).loc Cert.TapsKernelIdeal.main_arg7) = m ((c.tc : Thread Cert.TapsKernelIdeal.nD Cert.TapsKernelIdeal.τ).loc Cert.TapsKernelIdeal.main_arg7)
          ∧ r.2.mem ((c.tc : Thread Cert.TapsKernelIdeal.nD Cert.TapsKernelIdeal.τ).loc Cert.TapsKernelIdeal.main_arg8) = m ((c.tc : Thread Cert.TapsKernelIdeal.nD Cert.TapsKernelIdeal.τ).loc Cert.TapsKernelIdeal.main_arg8))
      ∧ θ_run (Cert.TapsReferenceIdeal.defs (F := Ideal)) (onTc (τ := Cert.TapsReferenceIdeal.τ) (Cert.TapsReferenceIdeal.main (F := Ideal))) ⟨m', fun _ => 0, g'⟩ (fun r => ∀ c : Dev Cert.TapsReferenceIdeal.nD,
          r.2.mem ((c.tc : Thread Cert.TapsReferenceIdeal.nD Cert.TapsReferenceIdeal.τ).loc Cert.TapsReferenceIdeal.main_v35) = v0 c
          ∧ r.2.mem ((c.tc : Thread Cert.TapsReferenceIdeal.nD Cert.TapsReferenceIdeal.τ).loc Cert.TapsReferenceIdeal.main_arg0) = m' ((c.tc : Thread Cert.TapsReferenceIdeal.nD Cert.TapsReferenceIdeal.τ).loc Cert.TapsReferenceIdeal.main_arg0)
          ∧ r.2.mem ((c.tc : Thread Cert.TapsReferenceIdeal.nD Cert.TapsReferenceIdeal.τ).loc Cert.TapsReferenceIdeal.main_arg1) = m' ((c.tc : Thread Cert.TapsReferenceIdeal.nD Cert.TapsReferenceIdeal.τ).loc Cert.TapsReferenceIdeal.main_arg1)
          ∧ r.2.mem ((c.tc : Thread Cert.TapsReferenceIdeal.nD Cert.TapsReferenceIdeal.τ).loc Cert.TapsReferenceIdeal.main_arg2) = m' ((c.tc : Thread Cert.TapsReferenceIdeal.nD Cert.TapsReferenceIdeal.τ).loc Cert.TapsReferenceIdeal.main_arg2)
          ∧ r.2.mem ((c.tc : Thread Cert.TapsReferenceIdeal.nD Cert.TapsReferenceIdeal.τ).loc Cert.TapsReferenceIdeal.main_arg3) = m' ((c.tc : Thread Cert.TapsReferenceIdeal.nD Cert.TapsReferenceIdeal.τ).loc Cert.TapsReferenceIdeal.main_arg3)
          ∧ r.2.mem ((c.tc : Thread Cert.TapsReferenceIdeal.nD Cert.TapsReferenceIdeal.τ).loc Cert.TapsReferenceIdeal.main_arg4) = m' ((c.tc : Thread Cert.TapsReferenceIdeal.nD Cert.TapsReferenceIdeal.τ).loc Cert.TapsReferenceIdeal.main_arg4)
          ∧ r.2.mem ((c.tc : Thread Cert.TapsReferenceIdeal.nD Cert.TapsReferenceIdeal.τ).loc Cert.TapsReferenceIdeal.main_arg5) = m' ((c.tc : Thread Cert.TapsReferenceIdeal.nD Cert.TapsReferenceIdeal.τ).loc Cert.TapsReferenceIdeal.main_arg5)
          ∧ r.2.mem ((c.tc : Thread Cert.TapsReferenceIdeal.nD Cert.TapsReferenceIdeal.τ).loc Cert.TapsReferenceIdeal.main_arg6) = m' ((c.tc : Thread Cert.TapsReferenceIdeal.nD Cert.TapsReferenceIdeal.τ).loc Cert.TapsReferenceIdeal.main_arg6)
          ∧ r.2.mem ((c.tc : Thread Cert.TapsReferenceIdeal.nD Cert.TapsReferenceIdeal.τ).loc Cert.TapsReferenceIdeal.main_arg7) = m' ((c.tc : Thread Cert.TapsReferenceIdeal.nD Cert.TapsReferenceIdeal.τ).loc Cert.TapsReferenceIdeal.main_arg7)
          ∧ r.2.mem ((c.tc : Thread Cert.TapsReferenceIdeal.nD Cert.TapsReferenceIdeal.τ).loc Cert.TapsReferenceIdeal.main_arg8) = m' ((c.tc : Thread Cert.TapsReferenceIdeal.nD Cert.TapsReferenceIdeal.τ).loc Cert.TapsReferenceIdeal.main_arg8))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v8)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v8) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v6) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hMergeKernel : Cert.MergeKernel.Facts) (hMergeKernelIdeal : Cert.MergeKernelIdeal.Facts) (hMergeReferenceIdeal : Cert.MergeReferenceIdeal.Facts) (hFinalKernel : Cert.FinalKernel.Facts) (hFinalKernelIdeal : Cert.FinalKernelIdeal.Facts) (hFinalReferenceIdeal : Cert.FinalReferenceIdeal.Facts) (hQueryKernel : Cert.QueryKernel.Facts) (hQueryKernelIdeal : Cert.QueryKernelIdeal.Facts) (hQueryReferenceIdeal : Cert.QueryReferenceIdeal.Facts) (hOutKernel : Cert.OutKernel.Facts) (hOutKernelIdeal : Cert.OutKernelIdeal.Facts) (hOutReferenceIdeal : Cert.OutReferenceIdeal.Facts) (hConvKernel : Cert.ConvKernel.Facts) (hConvKernelIdeal : Cert.ConvKernelIdeal.Facts) (hConvReferenceIdeal : Cert.ConvReferenceIdeal.Facts) (hSeqKernel : Cert.SeqKernel.Facts) (hSeqKernelIdeal : Cert.SeqKernelIdeal.Facts) (hSeqReferenceIdeal : Cert.SeqReferenceIdeal.Facts) (hHeadKernel : Cert.HeadKernel.Facts) (hHeadKernelIdeal : Cert.HeadKernelIdeal.Facts) (hHeadReferenceIdeal : Cert.HeadReferenceIdeal.Facts) (hTapsKernel : Cert.TapsKernel.Facts) (hTapsKernelIdeal : Cert.TapsKernelIdeal.Facts) (hTapsReferenceIdeal : Cert.TapsReferenceIdeal.Facts) (hModKernel : Cert.ModKernel.Facts) (hModKernelIdeal : Cert.ModKernelIdeal.Facts) (hModReferenceIdeal : Cert.ModReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_SeqKernel (hSeqKernel := hSeqKernel)
    ∧ quiescent_SeqKernelIdeal (hSeqKernelIdeal := hSeqKernelIdeal)
    ∧ quiescent_SeqReferenceIdeal (hSeqReferenceIdeal := hSeqReferenceIdeal)
    ∧ quiescent_HeadKernel (hHeadKernel := hHeadKernel)
    ∧ quiescent_HeadKernelIdeal (hHeadKernelIdeal := hHeadKernelIdeal)
    ∧ quiescent_HeadReferenceIdeal (hHeadReferenceIdeal := hHeadReferenceIdeal)
    ∧ quiescent_TapsKernel (hTapsKernel := hTapsKernel)
    ∧ quiescent_TapsKernelIdeal (hTapsKernelIdeal := hTapsKernelIdeal)
    ∧ quiescent_TapsReferenceIdeal (hTapsReferenceIdeal := hTapsReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_OutKernel_OutKernelIdeal
    ∧ algebraic_OutKernelIdeal_OutReferenceIdeal (hOutKernelIdeal := hOutKernelIdeal) (hOutReferenceIdeal := hOutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_SeqKernel_SeqKernelIdeal
    ∧ algebraic_SeqKernelIdeal_SeqReferenceIdeal (hSeqKernelIdeal := hSeqKernelIdeal) (hSeqReferenceIdeal := hSeqReferenceIdeal)
    ∧ preserves_HeadKernel_HeadKernelIdeal
    ∧ algebraic_HeadKernelIdeal_HeadReferenceIdeal (hHeadKernelIdeal := hHeadKernelIdeal) (hHeadReferenceIdeal := hHeadReferenceIdeal)
    ∧ preserves_TapsKernel_TapsKernelIdeal
    ∧ algebraic_TapsKernelIdeal_TapsReferenceIdeal (hTapsKernelIdeal := hTapsKernelIdeal) (hTapsReferenceIdeal := hTapsReferenceIdeal)
    ∧ preserves_ModKernel_ModKernelIdeal
    ∧ algebraic_ModKernelIdeal_ModReferenceIdeal (hModKernelIdeal := hModKernelIdeal) (hModReferenceIdeal := hModReferenceIdeal)
-- ==== Pre_finite.lean ====
abbrev S8448x2048 : Shape := ⟨2, ![8448, 2048]⟩
abbrev S8448x16896 : Shape := ⟨2, ![8448, 16896]⟩
abbrev S2x8x2x8448 : Shape := ⟨4, ![2, 8, 2, 8448]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S8448x16896 : S_.BroadcastsInDim S8448x16896 (![] : Fin 0 → Fin S8448x16896.rank)
  reducesTo_S8448x16896_S_d0_1 : S8448x16896.ReducesTo [0, 1] S_
  bcast_S_S2x8x2x8448 : S_.BroadcastsInDim S2x8x2x8448 (![] : Fin 0 → Fin S2x8x2x8448.rank)
  reducesTo_S2x8x2x8448_S_d0_1_2_3 : S2x8x2x8448.ReducesTo [0, 1, 2, 3] S_

variable [Facts]

def fn {F : FTy → Type} [FloatOps F] (main_arg0 : FVec F S8448x2048 .bf16) (main_arg1 : FVec F S8448x16896 .f32) (main_arg2 : FVec F S2x8x2x8448 .f32) : IVec S_ 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S8448x16896 .f32 := Host.absf main_arg1
  let main_cst_0 : FVec F S_ .f32 := constant S_ .f32 0x7F800000#32
  let main_v6 : FVec F S8448x16896 .f32 := broadcastInDim S8448x16896 ![] bcast_S_S8448x16896 main_cst_0
  let main_v7 : IVec S8448x16896 1 := cmpf .olt main_v5 main_v6
  let main_c_1 : IVec S_ 1 := constantI S_ 1 1#1
  let main_v8 : IVec S_ 1 := (fun x v => Host.reduce IntOp.andi x v reducesTo_S8448x16896_S_d0_1 h_S_) main_v7 main_c_1
  let main_v9 : IVec S_ 1 := andi main_v4 main_v8
  let main_v10 : FVec F S2x8x2x8448 .f32 := Host.absf main_arg2
  let main_cst_2 : FVec F S_ .f32 := constant S_ .f32 0x7F800000#32
  let main_v11 : FVec F S2x8x2x8448 .f32 := broadcastInDim S2x8x2x8448 ![] bcast_S_S2x8x2x8448 main_cst_2
  let main_v12 : IVec S2x8x2x8448 1 := cmpf .olt main_v10 main_v11
  let main_c_3 : IVec S_ 1 := constantI S_ 1 1#1
  let main_v13 : IVec S_ 1 := (fun x v => Host.reduce IntOp.andi x v reducesTo_S2x8x2x8448_S_d0_1_2_3 h_S_) main_v12 main_c_3
  let main_v14 : IVec S_ 1 := andi main_v9 main_v13
  main_v14
-- ==== Kernel.lean ====
abbrev S8448x2048 : Shape := ⟨2, ![8448, 2048]⟩
abbrev S8448x16896 : Shape := ⟨2, ![8448, 16896]⟩
abbrev S2x8x2x8448 : Shape := ⟨4, ![2, 8, 2, 8448]⟩
abbrev S8448x1024 : Shape := ⟨2, ![8448, 1024]⟩
abbrev S1024x8448 : Shape := ⟨2, ![1024, 8448]⟩
abbrev S2x8448x2048 : Shape := ⟨3, ![2, 8448, 2048]⟩
abbrev S256x128 : Shape := ⟨2, ![256, 128]⟩
abbrev S128x256 : Shape := ⟨2, ![128, 256]⟩
abbrev S256x256 : Shape := ⟨2, ![256, 256]⟩
abbrev S1x1x2x256 : Shape := ⟨4, ![1, 1, 2, 256]⟩
abbrev S1x256x256 : Shape := ⟨3, ![1, 256, 256]⟩
abbrev S1x128 : Shape := ⟨2, ![1, 128]⟩
abbrev S1x1 : Shape := ⟨2, ![1, 1]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩
abbrev S1 : Shape := ⟨1, ![1]⟩
abbrev S128 : Shape := ⟨1, ![128]⟩

abbrev nBuf : Space → Nat
  | .hbm => 6
  | .vmem => 15
  | .smem => 0
  | _ => 0

abbrev bufTy : (tb : Table) → Fin (tcTables nBuf tb) → BufTy
  | .hbm, ⟨0, _⟩ => ⟨S8448x2048, .bf16⟩
  | .hbm, ⟨1, _⟩ => ⟨S8448x16896, .f32⟩
  | .hbm, ⟨2, _⟩ => ⟨S2x8x2x8448, .f32⟩
  | .hbm, ⟨3, _⟩ => ⟨S8448x1024, .bf16⟩
  | .hbm, ⟨4, _⟩ => ⟨S1024x8448, .bf16⟩
  | .hbm, ⟨5, _⟩ => ⟨S2x8448x2048, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S256x256, .f32⟩
  | .local _ .vmem, ⟨7, _⟩ => ⟨S256x256, .f32⟩
  | .local _ .vmem, ⟨8, _⟩ => ⟨S1x1x2x256, .f32⟩
  | .local _ .vmem, ⟨9, _⟩ => ⟨S1x1x2x256, .f32⟩
  | .local _ .vmem, ⟨10, _⟩ => ⟨S1x256x256, .f32⟩
  | .local _ .vmem, ⟨11, _⟩ => ⟨S1x256x256, .f32⟩
  | .local _ .vmem, ⟨12, _⟩ => ⟨S128x256, .f32⟩
  | .local _ .vmem, ⟨13, _⟩ => ⟨S1x128, .f32⟩
  | .local _ .vmem, ⟨14, _⟩ => ⟨S1x1, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 33], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c0_i32_2 : BitVec 32 := 0#32
  ![v5.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c8_i32 : BitVec 32 := 8#32
  let v6 : BitVec 32 := Scalar.addi c8_i32 arg1
  let c0_i32_2 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c0_i32_2 : BitVec 32 := 0#32
  ![arg1.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c8_i32 : BitVec 32 := 8#32
  let v6 : BitVec 32 := Scalar.addi c8_i32 arg1
  let c0_i32_2 : BitVec 32 := 0#32
  ![v5.toNat, v6.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c0_i32_2 : BitVec 32 := 0#32
  let c0_i32_3 : BitVec 32 := 0#32
  ![arg0.toNat, arg1.toNat, c0_i32_2.toNat, v5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.subi arg2 c1_i32
  let c32_i32 : BitVec 32 := 32#32
  let v2 : BitVec 32 := Scalar.subi c32_i32 arg2
  let v3 : BitVec 32 := Scalar.select v0 v1 v2
  let c0_i32_0 : BitVec 32 := 0#32
  let v4 : BitVec 1 := Scalar.cmpi .eq arg2 c0_i32_0
  let c32_i32_1 : BitVec 32 := 32#32
  let v5 : BitVec 32 := Scalar.select v4 c32_i32_1 v3
  let c0_i32_2 : BitVec 32 := 0#32
  ![arg0.toNat, v5.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "state_min" => some ⊥
  | _ => none
-- ==== ReferenceIdeal.lean ====
abbrev S8448x2048 : Shape := ⟨2, ![8448, 2048]⟩
abbrev S8448x16896 : Shape := ⟨2, ![8448, 16896]⟩
abbrev S2x8x2x8448 : Shape := ⟨4, ![2, 8, 2, 8448]⟩
abbrev S8448x1024 : Shape := ⟨2, ![8448, 1024]⟩
abbrev S8448x8x128 : Shape := ⟨3, ![8448, 8, 128]⟩
abbrev S8x8448x128 : Shape := ⟨3, ![8, 8448, 128]⟩
abbrev S8x8192x128 : Shape := ⟨3, ![8, 8192, 128]⟩
abbrev S8x256x128 : Shape := ⟨3, ![8, 256, 128]⟩
abbrev S1x8x8448x128 : Shape := ⟨4, ![1, 8, 8448, 128]⟩
abbrev S2x8x8448x128 : Shape := ⟨4, ![2, 8, 8448, 128]⟩
abbrev S8448x8x256 : Shape := ⟨3, ![8448, 8, 256]⟩
abbrev S8x8448x256 : Shape := ⟨3, ![8, 8448, 256]⟩
abbrev S8x8192x256 : Shape := ⟨3, ![8, 8192, 256]⟩
abbrev S8x256x256 : Shape := ⟨3, ![8, 256, 256]⟩
abbrev S1x8x8448x256 : Shape := ⟨4, ![1, 8, 8448, 256]⟩
abbrev S2x8x8448x256 : Shape := ⟨4, ![2, 8, 8448, 256]⟩
abbrev S1x8x2x8448 : Shape := ⟨4, ![1, 8, 2, 8448]⟩
abbrev S8x2x8448 : Shape := ⟨3, ![8, 2, 8448]⟩
abbrev S8x2x8192 : Shape := ⟨3, ![8, 2, 8192]⟩
abbrev S8x2x256 : Shape := ⟨3, ![8, 2, 256]⟩
abbrev S2x8x1x8448 : Shape := ⟨4, ![2, 8, 1, 8448]⟩
abbrev S2x8x8448 : Shape := ⟨3, ![2, 8, 8448]⟩
abbrev S_ : Shape := ⟨0, ![]⟩
abbrev S2x8x8448x1 : Shape := ⟨4, ![2, 8, 8448, 1]⟩
abbrev S2x8x8448x8448 : Shape := ⟨4, ![2, 8, 8448, 8448]⟩
abbrev S2x8448x8x256 : Shape := ⟨4, ![2, 8448, 8, 256]⟩
abbrev S2x8448x2048 : Shape := ⟨3, ![2, 8448, 2048]⟩
abbrev S1x8448x2048 : Shape := ⟨3, ![1, 8448, 2048]⟩
abbrev S256x2048 : Shape := ⟨2, ![256, 2048]⟩
abbrev S8192x2048 : Shape := ⟨2, ![8192, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x16896, .f32⟩
  | .hbm, ⟨2, _⟩ => ⟨S2x8x2x8448, .f32⟩
  | .hbm, ⟨3, _⟩ => ⟨S8448x1024, .bf16⟩
  | .hbm, ⟨4, _⟩ => ⟨S8448x1024, .f32⟩
  | .hbm, ⟨5, _⟩ => ⟨S8448x8x128, .f32⟩
  | .hbm, ⟨6, _⟩ => ⟨S8x8448x128, .f32⟩
  | .hbm, ⟨7, _⟩ => ⟨S8x8192x128, .f32⟩
  | .hbm, ⟨8, _⟩ => ⟨S8x256x128, .f32⟩
  | .hbm, ⟨9, _⟩ => ⟨S8x8448x128, .f32⟩
  | .hbm, ⟨10, _⟩ => ⟨S8x8448x128, .f32⟩
  | .hbm, ⟨11, _⟩ => ⟨S1x8x8448x128, .f32⟩
  | .hbm, ⟨12, _⟩ => ⟨S1x8x8448x128, .f32⟩
  | .hbm, ⟨13, _⟩ => ⟨S2x8x8448x128, .f32⟩
  | .hbm, ⟨14, _⟩ => ⟨S8448x1024, .bf16⟩
  | .hbm, ⟨15, _⟩ => ⟨S8448x1024, .f32⟩
  | .hbm, ⟨16, _⟩ => ⟨S8448x8x128, .f32⟩
  | .hbm, ⟨17, _⟩ => ⟨S8x8448x128, .f32⟩
  | .hbm, ⟨18, _⟩ => ⟨S8x8192x128, .f32⟩
  | .hbm, ⟨19, _⟩ => ⟨S8x256x128, .f32⟩
  | .hbm, ⟨20, _⟩ => ⟨S8x8448x128, .f32⟩
  | .hbm, ⟨21, _⟩ => ⟨S8x8448x128, .f32⟩
  | .hbm, ⟨22, _⟩ => ⟨S1x8x8448x128, .f32⟩
  | .hbm, ⟨23, _⟩ => ⟨S1x8x8448x128, .f32⟩
  | .hbm, ⟨24, _⟩ => ⟨S2x8x8448x128, .f32⟩
  | .hbm, ⟨25, _⟩ => ⟨S8448x2048, .f32⟩
  | .hbm, ⟨26, _⟩ => ⟨S8448x8x256, .f32⟩
  | .hbm, ⟨27, _⟩ => ⟨S8x8448x256, .f32⟩
  | .hbm, ⟨28, _⟩ => ⟨S8x8192x256, .f32⟩
  | .hbm, ⟨29, _⟩ => ⟨S8x256x256, .f32⟩
  | .hbm, ⟨30, _⟩ => ⟨S8x8448x256, .f32⟩
  | .hbm, ⟨31, _⟩ => ⟨S8x8448x256, .f32⟩
  | .hbm, ⟨32, _⟩ => ⟨S1x8x8448x256, .f32⟩
  | .hbm, ⟨33, _⟩ => ⟨S1x8x8448x256, .f32⟩
  | .hbm, ⟨34, _⟩ => ⟨S2x8x8448x256, .f32⟩
  | .hbm, ⟨35, _⟩ => ⟨S1x8x2x8448, .f32⟩
  | .hbm, ⟨36, _⟩ => ⟨S8x2x8448, .f32⟩
  | .hbm, ⟨37, _⟩ => ⟨S8x2x8192, .f32⟩
  | .hbm, ⟨38, _⟩ => ⟨S8x2x256, .f32⟩
  | .hbm, ⟨39, _⟩ => ⟨S8x2x8448, .f32⟩
  | .hbm, ⟨40, _⟩ => ⟨S1x8x2x8448, .f32⟩
  | .hbm, ⟨41, _⟩ => ⟨S8x2x8448, .f32⟩
  | .hbm, ⟨42, _⟩ => ⟨S8x2x8448, .f32⟩
  | .hbm, ⟨43, _⟩ => ⟨S1x8x2x8448, .f32⟩
  | .hbm, ⟨44, _⟩ => ⟨S1x8x2x8448, .f32⟩
  | .hbm, ⟨45, _⟩ => ⟨S2x8x2x8448, .f32⟩
  | .hbm, ⟨46, _⟩ => ⟨S2x8x1x8448, .f32⟩
  | .hbm, ⟨47, _⟩ => ⟨S2x8x8448, .f32⟩
  | .hbm, ⟨48, _⟩ => ⟨S2x8x1x8448, .f32⟩
  | .hbm, ⟨49, _⟩ => ⟨S2x8x8448, .f32⟩
  | .hbm, ⟨50, _⟩ => ⟨S_, .f32⟩
  | .hbm, ⟨51, _⟩ => ⟨S_, .f32⟩
  | .hbm, ⟨52, _⟩ => ⟨S2x8x8448, .f32⟩
  | .hbm, ⟨53, _⟩ => ⟨S2x8x8448x1, .f32⟩
  | .hbm, ⟨54, _⟩ => ⟨S2x8x1x8448, .f32⟩
  | .hbm, ⟨55, _⟩ => ⟨S2x8x8448x8448, .f32⟩
  | .hbm, ⟨56, _⟩ => ⟨S2x8x8448x8448, .f32⟩
  | .hbm, ⟨57, _⟩ => ⟨S2x8x8448x8448, .f32⟩
  | .hbm, ⟨58, _⟩ => ⟨S2x8x1x8448, .f32⟩
  | .hbm, ⟨59, _⟩ => ⟨S2x8x8448x8448, .f32⟩
  | .hbm, ⟨60, _⟩ => ⟨S2x8x8448x8448, .f32⟩
  | .hbm, ⟨61, _⟩ => ⟨S2x8x8448x8448, .i32⟩
  | .hbm, ⟨62, _⟩ => ⟨S2x8x8448x8448, .i32⟩
  | .hbm, ⟨63, _⟩ => ⟨S2x8x8448x8448, .i1⟩
  | .hbm, ⟨64, _⟩ => ⟨S_, .f32⟩
  | .hbm, ⟨65, _⟩ => ⟨S_, .f32⟩
  | .hbm, ⟨66, _⟩ => ⟨S2x8x8448x8448, .f32⟩
  | .hbm, ⟨67, _⟩ => ⟨S2x8x8448x8448, .f32⟩
  | .hbm, ⟨68, _⟩ => ⟨S_, .f32⟩
  | .hbm, ⟨69, _⟩ => ⟨S2x8x8448, .f32⟩
  | .hbm, ⟨70, _⟩ => ⟨S2x8x8448x1, .f32⟩
  | .hbm, ⟨71, _⟩ => ⟨S2x8x8448x8448, .f32⟩
  | .hbm, ⟨72, _⟩ => ⟨S2x8x8448x8448, .f32⟩
  | .hbm, ⟨73, _⟩ => ⟨S2x8x8448x8448, .f32⟩
  | .hbm, ⟨74, _⟩ => ⟨S2x8x8448x8448, .f32⟩
  | .hbm, ⟨75, _⟩ => ⟨S2x8x8448x8448, .f32⟩
  | .hbm, ⟨76, _⟩ => ⟨S2x8x8448x256, .f32⟩
  | .hbm, ⟨77, _⟩ => ⟨S_, .f32⟩
  | .hbm, ⟨78, _⟩ => ⟨S2x8x8448, .f32⟩
  | .hbm, ⟨79, _⟩ => ⟨S2x8x8448, .f32⟩
  | .hbm, ⟨80, _⟩ => ⟨S2x8x8448, .f32⟩
  | .hbm, ⟨81, _⟩ => ⟨S2x8x8448, .f32⟩
  | .hbm, ⟨82, _⟩ => ⟨S2x8x8448, .f32⟩
  | .hbm, ⟨83, _⟩ => ⟨S2x8x8448x1, .f32⟩
  | .hbm, ⟨84, _⟩ => ⟨S2x8x8448x256, .f32⟩
  | .hbm, ⟨85, _⟩ => ⟨S2x8x8448x256, .f32⟩
  | .hbm, ⟨86, _⟩ => ⟨S2x8448x8x256, .f32⟩
  | .hbm, ⟨87, _⟩ => ⟨S2x8448x2048, .f32⟩
  | .hbm, ⟨88, _⟩ => ⟨S1x8448x2048, .f32⟩
  | .hbm, ⟨89, _⟩ => ⟨S8448x2048, .f32⟩
  | .hbm, ⟨90, _⟩ => ⟨S256x2048, .f32⟩
  | .hbm, ⟨91, _⟩ => ⟨S8192x2048, .f32⟩
  | .hbm, ⟨92, _⟩ => ⟨S8448x2048, .f32⟩
  | .hbm, ⟨93, _⟩ => ⟨S1x8448x2048, .f32⟩
  | .hbm, ⟨94, _⟩ => ⟨S8448x2048, .f32⟩
  | .hbm, ⟨95, _⟩ => ⟨S8448x2048, .f32⟩
  | .hbm, ⟨96, _⟩ => ⟨S1x8448x2048, .f32⟩
  | .hbm, ⟨97, _⟩ => ⟨S1x8448x2048, .f32⟩
  | .hbm, ⟨98, _⟩ => ⟨S2x8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_call4_call0_cst : Ref sig .tc := ⟨.hbm, 50, rfl⟩
abbrev main_call4_call0_v0 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst : Ref sig .tc := ⟨.hbm, 64, rfl⟩
abbrev main_call5_v0 : Ref sig .tc := ⟨.hbm, 65, rfl⟩
abbrev main_call5_v1 : Ref sig .tc := ⟨.hbm, 66, rfl⟩
abbrev main_v59 : Ref sig .tc := ⟨.hbm, 67, rfl⟩
abbrev main_cst_0 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_1 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩

abbrev nD : Nat := 1
abbrev τ : Topo := Topo.v7x

variable {F : FTy → Type} [FloatOps F]
-- ==== InKernel.lean ====
abbrev S8192x2048 : Shape := ⟨2, ![8192, 2048]⟩
abbrev S256x2048 : Shape := ⟨2, ![256, 2048]⟩
abbrev S2x6x2048 : Shape := ⟨3, ![2, 6, 2048]⟩
abbrev S2048 : Shape := ⟨1, ![2048]⟩
abbrev S2048x16416 : Shape := ⟨2, ![2048, 16416]⟩
abbrev S2x1x2048 : Shape := ⟨3, ![2, 1, 2048]⟩
abbrev S2x2048 : Shape := ⟨2, ![2, 2048]⟩
abbrev S1x2048 : Shape := ⟨2, ![1, 2048]⟩
abbrev S8448x2048 : Shape := ⟨2, ![8448, 2048]⟩
abbrev S1x1x2048 : Shape := ⟨3, ![1, 1, 2048]⟩
abbrev S256 : Shape := ⟨1, ![256]⟩
abbrev S256x1 : Shape := ⟨2, ![256, 1]⟩
abbrev S2048x6144 : Shape := ⟨2, ![2048, 6144]⟩
abbrev S2048x10240 : Shape := ⟨2, ![2048, 10240]⟩
abbrev S2048x32 : Shape := ⟨2, ![2048, 32]⟩
abbrev S_ : Shape := ⟨0, ![]⟩
abbrev S2048x480 : Shape := ⟨2, ![2048, 480]⟩
abbrev S2048x16896 : Shape := ⟨2, ![2048, 16896]⟩
abbrev S8448x16896 : Shape := ⟨2, ![8448, 16896]⟩
abbrev S768x2048 : Shape := ⟨2, ![768, 2048]⟩
abbrev S2048x1536 : Shape := ⟨2, ![2048, 1536]⟩
abbrev S768x1536 : Shape := ⟨2, ![768, 1536]⟩

abbrev nBuf : Space → Nat
  | .hbm => 21
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S2x6x2048, .f32⟩
  | .hbm, ⟨3, _⟩ => ⟨S2048, .f32⟩
  | .hbm, ⟨4, _⟩ => ⟨S2048x16416, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x1x2048, .f32⟩
  | .hbm, ⟨11, _⟩ => ⟨S1x2048, .f32⟩
  | .hbm, ⟨12, _⟩ => ⟨S8448x2048, .bf16⟩
  | .hbm, ⟨13, _⟩ => ⟨S2048x6144, .f32⟩
  | .hbm, ⟨14, _⟩ => ⟨S2048x10240, .f32⟩
  | .hbm, ⟨15, _⟩ => ⟨S2048x32, .f32⟩
  | .hbm, ⟨16, _⟩ => ⟨S_, .f32⟩
  | .hbm, ⟨17, _⟩ => ⟨S2048x480, .f32⟩
  | .hbm, ⟨18, _⟩ => ⟨S2048x16896, .f32⟩
  | .hbm, ⟨19, _⟩ => ⟨S2048x16896, .bf16⟩
  | .hbm, ⟨20, _⟩ => ⟨S8448x16896, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S256x2048, .bf16⟩
  | .local _ .vmem, ⟨9, _⟩ => ⟨S256x2048, .bf16⟩
  | .local _ .vmem, ⟨10, _⟩ => ⟨S768x2048, .bf16⟩
  | .local _ .vmem, ⟨11, _⟩ => ⟨S768x2048, .bf16⟩
  | .local _ .vmem, ⟨12, _⟩ => ⟨S2048x1536, .bf16⟩
  | .local _ .vmem, ⟨13, _⟩ => ⟨S2048x1536, .bf16⟩
  | .local _ .vmem, ⟨14, _⟩ => ⟨S768x1536, .f32⟩
  | .local _ .vmem, ⟨15, _⟩ => ⟨S768x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![11, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S768x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InReferenceIdeal.lean ====
abbrev S8192x2048 : Shape := ⟨2, ![8192, 2048]⟩
abbrev S256x2048 : Shape := ⟨2, ![256, 2048]⟩
abbrev S2x6x2048 : Shape := ⟨3, ![2, 6, 2048]⟩
abbrev S2048 : Shape := ⟨1, ![2048]⟩
abbrev S2048x16416 : Shape := ⟨2, ![2048, 16416]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048 : Shape := ⟨3, ![1, 1, 2048]⟩
abbrev S256 : Shape := ⟨1, ![256]⟩
abbrev S256x1 : Shape := ⟨2, ![256, 1]⟩
abbrev S8192x16416 : Shape := ⟨2, ![8192, 16416]⟩
abbrev S256x16416 : Shape := ⟨2, ![256, 16416]⟩
abbrev S8448x16416 : Shape := ⟨2, ![8448, 16416]⟩
abbrev S8448x2048 : Shape := ⟨2, ![8448, 2048]⟩
abbrev S8448x32 : Shape := ⟨2, ![8448, 32]⟩
abbrev S8448x6144 : Shape := ⟨2, ![8448, 6144]⟩
abbrev S8448x4096 : Shape := ⟨2, ![8448, 4096]⟩
abbrev S8448x480 : Shape := ⟨2, ![8448, 480]⟩
abbrev S8448x16896 : Shape := ⟨2, ![8448, 16896]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S2x6x2048, .f32⟩
  | .hbm, ⟨3, _⟩ => ⟨S2048, .f32⟩
  | .hbm, ⟨4, _⟩ => ⟨S2048x16416, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x1x2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S256x2048, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x2048, .f32⟩
  | .hbm, ⟨46, _⟩ => ⟨S256x2048, .f32⟩
  | .hbm, ⟨47, _⟩ => ⟨S1x2048, .f32⟩
  | .hbm, ⟨48, _⟩ => ⟨S256x2048, .f32⟩
  | .hbm, ⟨49, _⟩ => ⟨S256x2048, .f32⟩
  | .hbm, ⟨50, _⟩ => ⟨S1x1x2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S256x2048, .f32⟩
  | .hbm, ⟨57, _⟩ => ⟨S256x2048, .f32⟩
  | .hbm, ⟨58, _⟩ => ⟨S1x1x2048, .f32⟩
  | .hbm, ⟨59, _⟩ => ⟨S2048, .f32⟩
  | .hbm, ⟨60, _⟩ => ⟨S1x2048, .f32⟩
  | .hbm, ⟨61, _⟩ => ⟨S256x2048, .f32⟩
  | .hbm, ⟨62, _⟩ => ⟨S256x2048, .f32⟩
  | .hbm, ⟨63, _⟩ => ⟨S8192x16416, .f32⟩
  | .hbm, ⟨64, _⟩ => ⟨S256x16416, .f32⟩
  | .hbm, ⟨65, _⟩ => ⟨S8448x16416, .f32⟩
  | .hbm, ⟨66, _⟩ => ⟨S8448x2048, .f32⟩
  | .hbm, ⟨67, _⟩ => ⟨S8448x2048, .f32⟩
  | .hbm, ⟨68, _⟩ => ⟨S8448x2048, .f32⟩
  | .hbm, ⟨69, _⟩ => ⟨S8448x32, .f32⟩
  | .hbm, ⟨70, _⟩ => ⟨S8448x6144, .f32⟩
  | .hbm, ⟨71, _⟩ => ⟨S8448x4096, .f32⟩
  | .hbm, ⟨72, _⟩ => ⟨S_, .f32⟩
  | .hbm, ⟨73, _⟩ => ⟨S8448x480, .f32⟩
  | .hbm, ⟨74, _⟩ => ⟨S8448x16896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== MergeKernel.lean ====
abbrev S8192x2048 : Shape := ⟨2, ![8192, 2048]⟩
abbrev S8448x16896 : Shape := ⟨2, ![8448, 16896]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8448x16896, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S8192x2048 : Shape := ⟨2, ![8192, 2048]⟩
abbrev S8448x16896 : Shape := ⟨2, ![8448, 16896]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8448x16896, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== FinalKernel.lean ====
abbrev S8192x2048 : Shape := ⟨2, ![8192, 2048]⟩
abbrev S2x6x2048 : Shape := ⟨3, ![2, 6, 2048]⟩
abbrev S2048 : Shape := ⟨1, ![2048]⟩
abbrev S1x1x2048 : Shape := ⟨3, ![1, 1, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x6x2048, .f32⟩
  | .hbm, ⟨3, _⟩ => ⟨S2048, .f32⟩
  | .hbm, ⟨4, _⟩ => ⟨S1x1x2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalReferenceIdeal.lean ====
abbrev S8192x2048 : Shape := ⟨2, ![8192, 2048]⟩
abbrev S2x6x2048 : Shape := ⟨3, ![2, 6, 2048]⟩
abbrev S2048 : Shape := ⟨1, ![2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x6x2048, .f32⟩
  | .hbm, ⟨3, _⟩ => ⟨S2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== QueryKernel.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutKernel.lean ====
abbrev S8192x2048 : Shape := ⟨2, ![8192, 2048]⟩
abbrev S2048x2048 : Shape := ⟨2, ![2048, 2048]⟩
abbrev S2x6x2048 : Shape := ⟨3, ![2, 6, 2048]⟩
abbrev S2048 : Shape := ⟨1, ![2048]⟩
abbrev S1x1x2048 : Shape := ⟨3, ![1, 1, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x6x2048, .f32⟩
  | .hbm, ⟨4, _⟩ => ⟨S2048, .f32⟩
  | .hbm, ⟨5, _⟩ => ⟨S2048x2048, .bf16⟩
  | .hbm, ⟨6, _⟩ => ⟨S1x1x2048, .f32⟩
  | .hbm, ⟨7, _⟩ => ⟨S1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S8192x2048 : Shape := ⟨2, ![8192, 2048]⟩
abbrev S2048x2048 : Shape := ⟨2, ![2048, 2048]⟩
abbrev S2x6x2048 : Shape := ⟨3, ![2, 6, 2048]⟩
abbrev S2048 : Shape := ⟨1, ![2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x6x2048, .f32⟩
  | .hbm, ⟨4, _⟩ => ⟨S2048, .f32⟩
  | .hbm, ⟨5, _⟩ => ⟨S1x1x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x1x2048, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== ConvKernel.lean ====
abbrev S8448x16896 : Shape := ⟨2, ![8448, 16896]⟩
abbrev S3x3x2048 : Shape := ⟨3, ![3, 3, 2048]⟩
abbrev S9x2048 : Shape := ⟨2, ![9, 2048]⟩
abbrev S8448x2048 : Shape := ⟨2, ![8448, 2048]⟩
abbrev S128x512 : Shape := ⟨2, ![128, 512]⟩
abbrev S256x512 : Shape := ⟨2, ![256, 512]⟩
abbrev S9x512 : Shape := ⟨2, ![9, 512]⟩
abbrev S512x512 : Shape := ⟨2, ![512, 512]⟩
abbrev S1x512 : Shape := ⟨2, ![1, 512]⟩

abbrev nBuf : Space → Nat
  | .hbm => 4
  | .vmem => 11
  | .smem => 0
  | _ => 0

abbrev bufTy : (tb : Table) → Fin (tcTables nBuf tb) → BufTy
  | .hbm, ⟨0, _⟩ => ⟨S8448x16896, .f32⟩
  | .hbm, ⟨1, _⟩ => ⟨S3x3x2048, .f32⟩
  | .hbm, ⟨2, _⟩ => ⟨S9x2048, .f32⟩
  | .hbm, ⟨3, _⟩ => ⟨S8448x2048, .bf16⟩
  | .local _ .vmem, ⟨0, _⟩ => ⟨S128x512, .f32⟩
  | .local _ .vmem, ⟨1, _⟩ => ⟨S128x512, .f32⟩
  | .local _ .vmem, ⟨2, _⟩ => ⟨S256x512, .f32⟩
  | .local _ .vmem, ⟨3, _⟩ => ⟨S256x512, .f32⟩
  | .local _ .vmem, ⟨4, _⟩ => ⟨S128x512, .f32⟩
  | .local _ .vmem, ⟨5, _⟩ => ⟨S128x512, .f32⟩
  | .local _ .vmem, ⟨6, _⟩ => ⟨S9x512, .f32⟩
  | .local _ .vmem, ⟨7, _⟩ => ⟨S9x512, .f32⟩
  | .local _ .vmem, ⟨8, _⟩ => ⟨S256x512, .bf16⟩
  | .local _ .vmem, ⟨9, _⟩ => ⟨S256x512, .bf16⟩
  | .local _ .vmem, ⟨10, _⟩ => ⟨S512x512, .f32⟩
  | _, _ => ⟨S8448x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 33], ![false, false]⟩

def k0_cond1 (i : grid0.Coords) : BitVec 1 :=
  let arg1 : BitVec 32 := BitVec.ofNat 32 (i 1).val
  let c32_i32 : BitVec 32 := 32#32
  let v13 : BitVec 1 := Scalar.cmpi .slt arg1 c32_i32
  let v14 : BitVec 32 := Scalar.extui v13
  let c0_i32 : BitVec 32 := 0#32
  let v15 : BitVec 1 := Scalar.cmpi .ne v14 c0_i32
  v15

def k0_cond2 (i : grid0.Coords) : BitVec 1 :=
  let arg1 : BitVec 32 := BitVec.ofNat 32 (i 1).val
  let c32_i32_9 : BitVec 32 := 32#32
  let v16 : BitVec 1 := Scalar.cmpi .sge arg1 c32_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c65_i32 : BitVec 32 := 65#32
  let v2 : BitVec 32 := Scalar.minsi v1 c65_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S9x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvReferenceIdeal.lean ====
abbrev S8448x16896 : Shape := ⟨2, ![8448, 16896]⟩
abbrev S3x3x2048 : Shape := ⟨3, ![3, 3, 2048]⟩
abbrev S8192x2048 : Shape := ⟨2, ![8192, 2048]⟩
abbrev S128x64x2048 : Shape := ⟨3, ![128, 64, 2048]⟩
abbrev S_ : Shape := ⟨0, ![]⟩
abbrev S130x66x2048 : Shape := ⟨3, ![130, 66, 2048]⟩
abbrev S1x1x2048 : Shape := ⟨3, ![1, 1, 2048]⟩
abbrev S2048 : Shape := ⟨1, ![2048]⟩
abbrev S256x2048 : Shape := ⟨2, ![256, 2048]⟩
abbrev S258x2048 : Shape := ⟨2, ![258, 2048]⟩
abbrev S1x2048 : Shape := ⟨2, ![1, 2048]⟩
abbrev S8448x2048 : Shape := ⟨2, ![8448, 2048]⟩
abbrev S8448x1024 : Shape := ⟨2, ![8448, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8448x16896, .f32⟩
  | .hbm, ⟨1, _⟩ => ⟨S3x3x2048, .f32⟩
  | .hbm, ⟨2, _⟩ => ⟨S8192x2048, .f32⟩
  | .hbm, ⟨3, _⟩ => ⟨S128x64x2048, .f32⟩
  | .hbm, ⟨4, _⟩ => ⟨S_, .i32⟩
  | .hbm, ⟨5, _⟩ => ⟨S_, .f32⟩
  | .hbm, ⟨6, _⟩ => ⟨S130x66x2048, .f32⟩
  | .hbm, ⟨7, _⟩ => ⟨S128x64x2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S128x64x2048, .f32⟩
  | .hbm, ⟨12, _⟩ => ⟨S128x64x2048, .f32⟩
  | .hbm, ⟨13, _⟩ => ⟨S_, .f32⟩
  | .hbm, ⟨14, _⟩ => ⟨S128x64x2048, .f32⟩
  | .hbm, ⟨15, _⟩ => ⟨S128x64x2048, .f32⟩
  | .hbm, ⟨16, _⟩ => ⟨S128x64x2048, .f32⟩
  | .hbm, ⟨17, _⟩ => ⟨S1x1x2048, .f32⟩
  | .hbm, ⟨18, _⟩ => ⟨S2048, .f32⟩
  | .hbm, ⟨19, _⟩ => ⟨S1x1x2048, .f32⟩
  | .hbm, ⟨20, _⟩ => ⟨S128x64x2048, .f32⟩
  | .hbm, ⟨21, _⟩ => ⟨S128x64x2048, .f32⟩
  | .hbm, ⟨22, _⟩ => ⟨S128x64x2048, .f32⟩
  | .hbm, ⟨23, _⟩ => ⟨S128x64x2048, .f32⟩
  | .hbm, ⟨24, _⟩ => ⟨S1x1x2048, .f32⟩
  | .hbm, ⟨25, _⟩ => ⟨S2048, .f32⟩
  | .hbm, ⟨26, _⟩ => ⟨S1x1x2048, .f32⟩
  | .hbm, ⟨27, _⟩ => ⟨S128x64x2048, .f32⟩
  | .hbm, ⟨28, _⟩ => ⟨S128x64x2048, .f32⟩
  | .hbm, ⟨29, _⟩ => ⟨S128x64x2048, .f32⟩
  | .hbm, ⟨30, _⟩ => ⟨S128x64x2048, .f32⟩
  | .hbm, ⟨31, _⟩ => ⟨S1x1x2048, .f32⟩
  | .hbm, ⟨32, _⟩ => ⟨S2048, .f32⟩
  | .hbm, ⟨33, _⟩ => ⟨S1x1x2048, .f32⟩
  | .hbm, ⟨34, _⟩ => ⟨S128x64x2048, .f32⟩
  | .hbm, ⟨35, _⟩ => ⟨S128x64x2048, .f32⟩
  | .hbm, ⟨36, _⟩ => ⟨S128x64x2048, .f32⟩
  | .hbm, ⟨37, _⟩ => ⟨S128x64x2048, .f32⟩
  | .hbm, ⟨38, _⟩ => ⟨S1x1x2048, .f32⟩
  | .hbm, ⟨39, _⟩ => ⟨S2048, .f32⟩
  | .hbm, ⟨40, _⟩ => ⟨S1x1x2048, .f32⟩
  | .hbm, ⟨41, _⟩ => ⟨S128x64x2048, .f32⟩
  | .hbm, ⟨42, _⟩ => ⟨S128x64x2048, .f32⟩
  | .hbm, ⟨43, _⟩ => ⟨S128x64x2048, .f32⟩
  | .hbm, ⟨44, _⟩ => ⟨S128x64x2048, .f32⟩
  | .hbm, ⟨45, _⟩ => ⟨S1x1x2048, .f32⟩
  | .hbm, ⟨46, _⟩ => ⟨S2048, .f32⟩
  | .hbm, ⟨47, _⟩ => ⟨S1x1x2048, .f32⟩
  | .hbm, ⟨48, _⟩ => ⟨S128x64x2048, .f32⟩
  | .hbm, ⟨49, _⟩ => ⟨S128x64x2048, .f32⟩
  | .hbm, ⟨50, _⟩ => ⟨S128x64x2048, .f32⟩
  | .hbm, ⟨51, _⟩ => ⟨S128x64x2048, .f32⟩
  | .hbm, ⟨52, _⟩ => ⟨S1x1x2048, .f32⟩
  | .hbm, ⟨53, _⟩ => ⟨S2048, .f32⟩
  | .hbm, ⟨54, _⟩ => ⟨S1x1x2048, .f32⟩
  | .hbm, ⟨55, _⟩ => ⟨S128x64x2048, .f32⟩
  | .hbm, ⟨56, _⟩ => ⟨S128x64x2048, .f32⟩
  | .hbm, ⟨57, _⟩ => ⟨S128x64x2048, .f32⟩
  | .hbm, ⟨58, _⟩ => ⟨S128x64x2048, .f32⟩
  | .hbm, ⟨59, _⟩ => ⟨S1x1x2048, .f32⟩
  | .hbm, ⟨60, _⟩ => ⟨S2048, .f32⟩
  | .hbm, ⟨61, _⟩ => ⟨S1x1x2048, .f32⟩
  | .hbm, ⟨62, _⟩ => ⟨S128x64x2048, .f32⟩
  | .hbm, ⟨63, _⟩ => ⟨S128x64x2048, .f32⟩
  | .hbm, ⟨64, _⟩ => ⟨S128x64x2048, .f32⟩
  | .hbm, ⟨65, _⟩ => ⟨S128x64x2048, .f32⟩
  | .hbm, ⟨66, _⟩ => ⟨S1x1x2048, .f32⟩
  | .hbm, ⟨67, _⟩ => ⟨S2048, .f32⟩
  | .hbm, ⟨68, _⟩ => ⟨S1x1x2048, .f32⟩
  | .hbm, ⟨69, _⟩ => ⟨S128x64x2048, .f32⟩
  | .hbm, ⟨70, _⟩ => ⟨S128x64x2048, .f32⟩
  | .hbm, ⟨71, _⟩ => ⟨S128x64x2048, .f32⟩
  | .hbm, ⟨72, _⟩ => ⟨S256x2048, .f32⟩
  | .hbm, ⟨73, _⟩ => ⟨S_, .i32⟩
  | .hbm, ⟨74, _⟩ => ⟨S_, .f32⟩
  | .hbm, ⟨75, _⟩ => ⟨S258x2048, .f32⟩
  | .hbm, ⟨76, _⟩ => ⟨S256x2048, .f32⟩
  | .hbm, ⟨77, _⟩ => ⟨S1x1x2048, .f32⟩
  | .hbm, ⟨78, _⟩ => ⟨S2048, .f32⟩
  | .hbm, ⟨79, _⟩ => ⟨S1x2048, .f32⟩
  | .hbm, ⟨80, _⟩ => ⟨S256x2048, .f32⟩
  | .hbm, ⟨81, _⟩ => ⟨S256x2048, .f32⟩
  | .hbm, ⟨82, _⟩ => ⟨S_, .f32⟩
  | .hbm, ⟨83, _⟩ => ⟨S256x2048, .f32⟩
  | .hbm, ⟨84, _⟩ => ⟨S256x2048, .f32⟩
  | .hbm, ⟨85, _⟩ => ⟨S256x2048, .f32⟩
  | .hbm, ⟨86, _⟩ => ⟨S1x1x2048, .f32⟩
  | .hbm, ⟨87, _⟩ => ⟨S2048, .f32⟩
  | .hbm, ⟨88, _⟩ => ⟨S1x2048, .f32⟩
  | .hbm, ⟨89, _⟩ => ⟨S256x2048, .f32⟩
  | .hbm, ⟨90, _⟩ => ⟨S256x2048, .f32⟩
  | .hbm, ⟨91, _⟩ => ⟨S256x2048, .f32⟩
  | .hbm, ⟨92, _⟩ => ⟨S256x2048, .f32⟩
  | .hbm, ⟨93, _⟩ => ⟨S1x1x2048, .f32⟩
  | .hbm, ⟨94, _⟩ => ⟨S2048, .f32⟩
  | .hbm, ⟨95, _⟩ => ⟨S1x2048, .f32⟩
  | .hbm, ⟨96, _⟩ => ⟨S256x2048, .f32⟩
  | .hbm, ⟨97, _⟩ => ⟨S256x2048, .f32⟩
  | .hbm, ⟨98, _⟩ => ⟨S256x2048, .f32⟩
  | .hbm, ⟨99, _⟩ => ⟨S8192x2048, .f32⟩
  | .hbm, ⟨100, _⟩ => ⟨S8448x2048, .f32⟩
  | .hbm, ⟨101, _⟩ => ⟨S8448x2048, .f32⟩
  | .hbm, ⟨102, _⟩ => ⟨S8448x2048, .f32⟩
  | .hbm, ⟨103, _⟩ => ⟨S_, .f32⟩
  | .hbm, ⟨104, _⟩ => ⟨S8448x2048, .f32⟩
  | .hbm, ⟨105, _⟩ => ⟨S8448x2048, .f32⟩
  | .hbm, ⟨106, _⟩ => ⟨S_, .f32⟩
  | .hbm, ⟨107, _⟩ => ⟨S8448x2048, .f32⟩
  | .hbm, ⟨108, _⟩ => ⟨S8448x2048, .f32⟩
  | .hbm, ⟨109, _⟩ => ⟨S8448x2048, .f32⟩
  | .hbm, ⟨110, _⟩ => ⟨S8448x1024, .f32⟩
  | .hbm, ⟨111, _⟩ => ⟨S8448x1024, .f32⟩
  | .hbm, ⟨112, _⟩ => ⟨S_, .f32⟩
  | .hbm, ⟨113, _⟩ => ⟨S8448x1024, .f32⟩
  | .hbm, ⟨114, _⟩ => ⟨S8448x1024, .f32⟩
  | .hbm, ⟨115, _⟩ => ⟨S8448x2048, .f32⟩
  | .hbm, ⟨116, _⟩ => ⟨S8448x2048, .bf16⟩
  | _, _ => ⟨S8448x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_c_0 : Ref sig .tc := ⟨.hbm, 73, rfl⟩
abbrev main_call1_v0 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_1 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_2 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩

abbrev nD : Nat := 1
abbrev τ : Topo := Topo.v7x

variable {F : FTy → Type} [FloatOps F]
-- ==== SeqKernel.lean ====
abbrev S8448x16896 : Shape := ⟨2, ![8448, 16896]⟩
abbrev S3x6144 : Shape := ⟨2, ![3, 6144]⟩
abbrev S8192x6144 : Shape := ⟨2, ![8192, 6144]⟩
abbrev S8x1024 : Shape := ⟨2, ![8, 1024]⟩
abbrev S256x1024 : Shape := ⟨2, ![256, 1024]⟩
abbrev S3x1024 : Shape := ⟨2, ![3, 1024]⟩
abbrev S272x1024 : Shape := ⟨2, ![272, 1024]⟩
abbrev S1x1024 : Shape := ⟨2, ![1, 1024]⟩

abbrev nBuf : Space → Nat
  | .hbm => 3
  | .vmem => 11
  | .smem => 0
  | _ => 0

abbrev bufTy : (tb : Table) → Fin (tcTables nBuf tb) → BufTy
  | .hbm, ⟨0, _⟩ => ⟨S8448x16896, .f32⟩
  | .hbm, ⟨1, _⟩ => ⟨S3x6144, .f32⟩
  | .hbm, ⟨2, _⟩ => ⟨S8192x6144, .f32⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S256x1024, .f32⟩
  | .local _ .vmem, ⟨9, _⟩ => ⟨S256x1024, .f32⟩
  | .local _ .vmem, ⟨10, _⟩ => ⟨S272x1024, .f32⟩
  | _, _ => ⟨S8448x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c6_i32 : BitVec 32 := 6#32
  let v3 : BitVec 32 := Scalar.addi c6_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SeqReferenceIdeal.lean ====
abbrev S8448x16896 : Shape := ⟨2, ![8448, 16896]⟩
abbrev S3x6144 : Shape := ⟨2, ![3, 6144]⟩
abbrev S8192x6144 : Shape := ⟨2, ![8192, 6144]⟩
abbrev S_ : Shape := ⟨0, ![]⟩
abbrev S8194x6144 : Shape := ⟨2, ![8194, 6144]⟩
abbrev S1x6144 : Shape := ⟨2, ![1, 6144]⟩
abbrev S6144 : Shape := ⟨1, ![6144]⟩

abbrev nBuf : Space → Nat
  | .hbm => 26
  | .vmem => 0
  | .smem => 0
  | _ => 0

abbrev bufTy : (tb : Table) → Fin (tcTables nBuf tb) → BufTy
  | .hbm, ⟨0, _⟩ => ⟨S8448x16896, .f32⟩
  | .hbm, ⟨1, _⟩ => ⟨S3x6144, .f32⟩
  | .hbm, ⟨2, _⟩ => ⟨S8192x6144, .f32⟩
  | .hbm, ⟨3, _⟩ => ⟨S_, .i32⟩
  | .hbm, ⟨4, _⟩ => ⟨S_, .f32⟩
  | .hbm, ⟨5, _⟩ => ⟨S8194x6144, .f32⟩
  | .hbm, ⟨6, _⟩ => ⟨S8192x6144, .f32⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S8192x6144, .f32⟩
  | .hbm, ⟨11, _⟩ => ⟨S8192x6144, .f32⟩
  | .hbm, ⟨12, _⟩ => ⟨S8192x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S8192x6144, .f32⟩
  | .hbm, ⟨17, _⟩ => ⟨S8192x6144, .f32⟩
  | .hbm, ⟨18, _⟩ => ⟨S8192x6144, .f32⟩
  | .hbm, ⟨19, _⟩ => ⟨S8192x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8192x6144, .f32⟩
  | .hbm, ⟨24, _⟩ => ⟨S8192x6144, .f32⟩
  | .hbm, ⟨25, _⟩ => ⟨S8192x6144, .f32⟩
  | _, _ => ⟨S8448x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== HeadKernel.lean ====
abbrev S2x8448x2048 : Shape := ⟨3, ![2, 8448, 2048]⟩
abbrev S8448x16896 : Shape := ⟨2, ![8448, 16896]⟩
abbrev S2048 : Shape := ⟨1, ![2048]⟩
abbrev S1x2048 : Shape := ⟨2, ![1, 2048]⟩
abbrev S8192x2048 : Shape := ⟨2, ![8192, 2048]⟩
abbrev S1x256x2048 : Shape := ⟨3, ![1, 256, 2048]⟩
abbrev S256x2048 : Shape := ⟨2, ![256, 2048]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S2x8448x2048, .f32⟩
  | .hbm, ⟨1, _⟩ => ⟨S8448x16896, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HeadReferenceIdeal.lean ====
abbrev S2x8448x2048 : Shape := ⟨3, ![2, 8448, 2048]⟩
abbrev S8448x16896 : Shape := ⟨2, ![8448, 16896]⟩
abbrev S2048 : Shape := ⟨1, ![2048]⟩
abbrev S1x8192x2048 : Shape := ⟨3, ![1, 8192, 2048]⟩
abbrev S8192x2048 : Shape := ⟨2, ![8192, 2048]⟩
abbrev S8192x8x256 : Shape := ⟨3, ![8192, 8, 256]⟩
abbrev S_ : Shape := ⟨0, ![]⟩
abbrev S8192x8 : Shape := ⟨2, ![8192, 8]⟩
abbrev S8192x8x1 : Shape := ⟨3, ![8192, 8, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S8448x16896, .f32⟩
  | .hbm, ⟨2, _⟩ => ⟨S2048, .f32⟩
  | .hbm, ⟨3, _⟩ => ⟨S1x8192x2048, .f32⟩
  | .hbm, ⟨4, _⟩ => ⟨S8192x2048, .f32⟩
  | .hbm, ⟨5, _⟩ => ⟨S1x8192x2048, .f32⟩
  | .hbm, ⟨6, _⟩ => ⟨S8192x2048, .f32⟩
  | .hbm, ⟨7, _⟩ => ⟨S8192x2048, .f32⟩
  | .hbm, ⟨8, _⟩ => ⟨S8192x8x256, .f32⟩
  | .hbm, ⟨9, _⟩ => ⟨S8192x8x256, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x256, .f32⟩
  | .hbm, ⟨21, _⟩ => ⟨S8192x8x256, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== TapsKernel.lean ====
abbrev S16384x17 : Shape := ⟨2, ![16384, 17]⟩
abbrev S16384 : Shape := ⟨1, ![16384]⟩
abbrev S2048 : Shape := ⟨1, ![2048]⟩
abbrev S17x64 : Shape := ⟨2, ![17, 64]⟩
abbrev S64 : Shape := ⟨1, ![64]⟩
abbrev S64x64 : Shape := ⟨2, ![64, 64]⟩
abbrev S64x8192 : Shape := ⟨2, ![64, 8192]⟩
abbrev S_ : Shape := ⟨0, ![]⟩
abbrev S16384x32 : Shape := ⟨2, ![16384, 32]⟩
abbrev S16384x1 : Shape := ⟨2, ![16384, 1]⟩
abbrev S16384x128 : Shape := ⟨2, ![16384, 128]⟩
abbrev S32x64 : Shape := ⟨2, ![32, 64]⟩
abbrev S64x4x2048 : Shape := ⟨3, ![64, 4, 2048]⟩
abbrev S4x64x2048 : Shape := ⟨3, ![4, 64, 2048]⟩
abbrev S1x64 : Shape := ⟨2, ![1, 64]⟩
abbrev S1x2048 : Shape := ⟨2, ![1, 2048]⟩
abbrev S2x16384x2048 : Shape := ⟨3, ![2, 16384, 2048]⟩
abbrev S512x32 : Shape := ⟨2, ![512, 32]⟩
abbrev S512x128 : Shape := ⟨2, ![512, 128]⟩
abbrev S1x64x2048 : Shape := ⟨3, ![1, 64, 2048]⟩
abbrev S1x512x2048 : Shape := ⟨3, ![1, 512, 2048]⟩
abbrev S512x64 : Shape := ⟨2, ![512, 64]⟩
abbrev S512x2048 : Shape := ⟨2, ![512, 2048]⟩
abbrev S1x128 : Shape := ⟨2, ![1, 128]⟩
abbrev S64x2048 : Shape := ⟨2, ![64, 2048]⟩

abbrev nBuf : Space → Nat
  | .hbm => 24
  | .vmem => 16
  | .smem => 0
  | _ => 0

abbrev bufTy : (tb : Table) → Fin (tcTables nBuf tb) → BufTy
  | .hbm, ⟨0, _⟩ => ⟨S16384x17, .f32⟩
  | .hbm, ⟨1, _⟩ => ⟨S16384, .f32⟩
  | .hbm, ⟨2, _⟩ => ⟨S2048, .f32⟩
  | .hbm, ⟨3, _⟩ => ⟨S17x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8192, .f32⟩
  | .hbm, ⟨8, _⟩ => ⟨S64, .f32⟩
  | .hbm, ⟨9, _⟩ => ⟨S_, .i32⟩
  | .hbm, ⟨10, _⟩ => ⟨S_, .f32⟩
  | .hbm, ⟨11, _⟩ => ⟨S16384x32, .f32⟩
  | .hbm, ⟨12, _⟩ => ⟨S16384x1, .f32⟩
  | .hbm, ⟨13, _⟩ => ⟨S16384x128, .f32⟩
  | .hbm, ⟨14, _⟩ => ⟨S_, .i32⟩
  | .hbm, ⟨15, _⟩ => ⟨S_, .f32⟩
  | .hbm, ⟨16, _⟩ => ⟨S32x64, .f32⟩
  | .hbm, ⟨17, _⟩ => ⟨S64x4x2048, .f32⟩
  | .hbm, ⟨18, _⟩ => ⟨S4x64x2048, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x2048, .f32⟩
  | .hbm, ⟨23, _⟩ => ⟨S2x16384x2048, .f32⟩
  | .local _ .vmem, ⟨0, _⟩ => ⟨S512x32, .f32⟩
  | .local _ .vmem, ⟨1, _⟩ => ⟨S512x32, .f32⟩
  | .local _ .vmem, ⟨2, _⟩ => ⟨S512x128, .f32⟩
  | .local _ .vmem, ⟨3, _⟩ => ⟨S512x128, .f32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64x2048, .f32⟩
  | .local _ .vmem, ⟨10, _⟩ => ⟨S1x64x2048, .f32⟩
  | .local _ .vmem, ⟨11, _⟩ => ⟨S1x2048, .f32⟩
  | .local _ .vmem, ⟨12, _⟩ => ⟨S1x512x2048, .f32⟩
  | .local _ .vmem, ⟨13, _⟩ => ⟨S1x512x2048, .f32⟩
  | .local _ .vmem, ⟨14, _⟩ => ⟨S512x64, .bf16⟩
  | .local _ .vmem, ⟨15, _⟩ => ⟨S512x2048, .f32⟩
  | _, _ => ⟨S16384x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let v18 : BitVec 32 := Scalar.addi v17 arg1
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== TapsReferenceIdeal.lean ====
abbrev S16384x17 : Shape := ⟨2, ![16384, 17]⟩
abbrev S16384 : Shape := ⟨1, ![16384]⟩
abbrev S2048 : Shape := ⟨1, ![2048]⟩
abbrev S17x64 : Shape := ⟨2, ![17, 64]⟩
abbrev S64 : Shape := ⟨1, ![64]⟩
abbrev S64x64 : Shape := ⟨2, ![64, 64]⟩
abbrev S64x8192 : Shape := ⟨2, ![64, 8192]⟩
abbrev S16384x64 : Shape := ⟨2, ![16384, 64]⟩
abbrev S1x64 : Shape := ⟨2, ![1, 64]⟩
abbrev S16384x8192 : Shape := ⟨2, ![16384, 8192]⟩
abbrev S16384x2x2x2048 : Shape := ⟨4, ![16384, 2, 2, 2048]⟩
abbrev S8192x1x2x2048 : Shape := ⟨4, ![8192, 1, 2, 2048]⟩
abbrev S8192x2x2048 : Shape := ⟨3, ![8192, 2, 2048]⟩
abbrev S16384x2x2048 : Shape := ⟨3, ![16384, 2, 2048]⟩
abbrev S16384x1 : Shape := ⟨2, ![16384, 1]⟩
abbrev S1x2048 : Shape := ⟨2, ![1, 2048]⟩
abbrev S16384x2048 : Shape := ⟨2, ![16384, 2048]⟩
abbrev S_ : Shape := ⟨0, ![]⟩
abbrev S16384x1x2048 : Shape := ⟨3, ![16384, 1, 2048]⟩
abbrev S2x16384x2048 : Shape := ⟨3, ![2, 16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x17, .f32⟩
  | .hbm, ⟨1, _⟩ => ⟨S16384, .f32⟩
  | .hbm, ⟨2, _⟩ => ⟨S2048, .f32⟩
  | .hbm, ⟨3, _⟩ => ⟨S17x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8192, .f32⟩
  | .hbm, ⟨8, _⟩ => ⟨S64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x8192, .f32⟩
  | .hbm, ⟨26, _⟩ => ⟨S16384x2x2x2048, .f32⟩
  | .hbm, ⟨27, _⟩ => ⟨S8192x1x2x2048, .f32⟩
  | .hbm, ⟨28, _⟩ => ⟨S8192x2x2048, .f32⟩
  | .hbm, ⟨29, _⟩ => ⟨S8192x1x2x2048, .f32⟩
  | .hbm, ⟨30, _⟩ => ⟨S8192x2x2048, .f32⟩
  | .hbm, ⟨31, _⟩ => ⟨S16384x2x2048, .f32⟩
  | .hbm, ⟨32, _⟩ => ⟨S16384x1, .f32⟩
  | .hbm, ⟨33, _⟩ => ⟨S16384x1, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x1x2048, .f32⟩
  | .hbm, ⟨43, _⟩ => ⟨S16384x2x2048, .f32⟩
  | .hbm, ⟨44, _⟩ => ⟨S16384x2x2048, .f32⟩
  | .hbm, ⟨45, _⟩ => ⟨S2x16384x2048, .f32⟩
  | _, _ => ⟨S16384x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== ModKernel.lean ====
abbrev S1x2048 : Shape := ⟨2, ![1, 2048]⟩
abbrev S2048 : Shape := ⟨1, ![2048]⟩
abbrev S2048x12288 : Shape := ⟨2, ![2048, 12288]⟩
abbrev S_ : Shape := ⟨0, ![]⟩
abbrev S8x2048 : Shape := ⟨2, ![8, 2048]⟩
abbrev S1 : Shape := ⟨1, ![1]⟩
abbrev S8x12288 : Shape := ⟨2, ![8, 12288]⟩
abbrev S2048x1024 : Shape := ⟨2, ![2048, 1024]⟩
abbrev S8x1024 : Shape := ⟨2, ![8, 1024]⟩

abbrev nBuf : Space → Nat
  | .hbm => 31
  | .vmem => 5
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2048x12288, .f32⟩
  | .hbm, ⟨3, _⟩ => ⟨S_, .f32⟩
  | .hbm, ⟨4, _⟩ => ⟨S8x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .i32⟩
  | .hbm, ⟨16, _⟩ => ⟨S1, .i32⟩
  | .hbm, ⟨17, _⟩ => ⟨S8x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S_, .i32⟩
  | .hbm, ⟨28, _⟩ => ⟨S1, .i32⟩
  | .hbm, ⟨29, _⟩ => ⟨S8x2048, .f32⟩
  | .hbm, ⟨30, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S8x1024, .f32⟩
  | .local _ .vmem, ⟨4, _⟩ => ⟨S8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModReferenceIdeal.lean ====
abbrev S1x2048 : Shape := ⟨2, ![1, 2048]⟩
abbrev S2048 : Shape := ⟨1, ![2048]⟩
abbrev S2048x12288 : Shape := ⟨2, ![2048, 12288]⟩
abbrev S_ : Shape := ⟨0, ![]⟩
abbrev S1x12288 : Shape := ⟨2, ![1, 12288]⟩
abbrev S6x12288 : Shape := ⟨2, ![6, 12288]⟩
abbrev S8x12288 : Shape := ⟨2, ![8, 12288]⟩

abbrev nBuf : Space → Nat
  | .hbm => 27
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2048x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x12288, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S1x12288, .f32⟩
  | .hbm, ⟨24, _⟩ => ⟨S_, .f32⟩
  | .hbm, ⟨25, _⟩ => ⟨S6x12288, .f32⟩
  | .hbm, ⟨26, _⟩ => ⟨S8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩

abbrev nD : Nat := 1
abbrev τ : Topo := Topo.v7x

variable {F : FTy → Type} [FloatOps F]
-- ==== Proof.Scan.lean ====
/-
  The stabilised recurrence on real numbers: what its weights are after `n` positions, how the weights, the
  stabiliser and the two carried sums move on by a stretch of positions, and what a position puts out.
-/
module

public import Idealize.ShloMosaic.PureOps.Ideal

@[expose] public section

noncomputable section

namespace Cert.Mlstm

open Finset Idealize.ShloMosaic

/-- The embedding of the reals takes finite sums to finite sums. -/
theorem coe_sum {ι : Type} (s : Finset ι) (g : ι → ℝ) : ∑ k ∈ s, ((g k : ℝ) : EReal) = ((∑ k ∈ s, g k : ℝ) : EReal) := by
  classical
  induction s using Finset.induction_on with
  | empty => simp
  | insert a s ha ih => rw [sum_insert ha, sum_insert ha, ih, EReal.coe_add]

/-- The embedding of the reals keeps maxima. -/
theorem coe_max (a b : ℝ) : max (a : EReal) (b : EReal) = ((max a b : ℝ) : EReal) :=
  ((EReal.coe_strictMono.monotone).map_max).symm

/-- The absolute value, as the larger of a number and its negative, is the real one. -/
theorem coe_abs (a : ℝ) : max (a : EReal) (-(a : EReal)) = ((|a| : ℝ) : EReal) := by
  rw [← EReal.coe_neg, coe_max]; rfl

/-- The absolute value of a real number is the real one. -/
theorem absf_coe (a : ℝ) : (FloatOps.absf (F := Ideal) (φ := .f32) ((a : ℝ) : EReal) : EReal) = ((|a| : ℝ) : EReal) := coe_abs a

/-- Division by a positive real is the real division. -/
theorem div_pos_coe (a b : ℝ) (hb : 0 < b) : Ideal.div (a : EReal) (b : EReal) = ((a / b : ℝ) : EReal) := by
  rw [Ideal.div_coe hb.ne', ← EReal.coe_mul, one_div, div_eq_mul_inv]

section weights

variable (f i : ℕ → ℝ)

/-- The sum of the log forget gates before position `n`. -/
def cum (n : ℕ) : ℝ := ∑ s ∈ range n, f s

/-- The log weight of position `s` once `n` positions are read. -/
def logw (n s : ℕ) : ℝ := cum f n - cum f (s + 1) + i s

/-- The stabiliser after `n` positions: the largest log weight, `⊥` before the first position. -/
def top (n : ℕ) : EReal := (range n).sup fun s => ((logw f i n s : ℝ) : EReal)

/-- The stabilised weight of position `s` after `n` positions. -/
def wgt (n s : ℕ) : ℝ := Real.exp (logw f i n s - (top f i n).toReal)

/-- The factor that takes the weights after `n` positions to those after `n'`; nothing is carried into the first position. -/
def carry (n n' : ℕ) : ℝ := if n = 0 then 0 else Real.exp (cum f n' - cum f n + (top f i n).toReal - (top f i n').toReal)

/-- The difference of two cumulative sums is the sum between them. -/
theorem cum_add (n k : ℕ) : cum f (n + k) - cum f n = ∑ y ∈ range k, f (n + y) := by
  unfold cum; rw [sum_range_add]; ring

/-- A log weight seen from a later position. -/
theorem logw_later (n n' s : ℕ) : logw f i n' s = (cum f n' - cum f n) + logw f i n s := by unfold logw; ring

/-- After at least one position the stabiliser is a real number. -/
theorem top_coe (n : ℕ) (hn : 0 < n) : top f i n = (((top f i n).toReal : ℝ) : EReal) := by
  obtain ⟨s, -, hs⟩ := Finset.exists_mem_eq_sup (range n) ⟨0, mem_range.mpr hn⟩ (fun s => ((logw f i n s : ℝ) : EReal))
  unfold top; rw [hs]; rfl

/-- Before the first position the stabiliser is minus infinity. -/
theorem top_zero : top f i 0 = ⊥ := rfl

/-- The stabiliser moves on by a stretch of `k` positions. -/
theorem top_add (n k : ℕ) : top f i (n + k)
    = max (((cum f (n + k) - cum f n : ℝ) : EReal) + top f i n) ((range k).sup fun y => ((logw f i (n + k) (n + y) : ℝ) : EReal)) := by
  have h1 : ((cum f (n + k) - cum f n : ℝ) : EReal) + top f i n
      = (range n).sup fun s => ((logw f i (n + k) s : ℝ) : EReal) := by
    unfold top
    rw [Finset.comp_sup_eq_sup_comp_of_is_total (fun z : EReal => ((cum f (n + k) - cum f n : ℝ) : EReal) + z)
      (fun a b h => add_le_add le_rfl h) (EReal.add_bot _)]
    refine Finset.sup_congr rfl fun s _ => ?_
    show _ + _ = _
    rw [logw_later f i n (n + k) s, ← EReal.coe_add]
  rw [h1]
  unfold top
  apply le_antisymm
  · refine Finset.sup_le fun s hs => ?_
    by_cases h : s < n
    · exact le_max_of_le_left (Finset.le_sup (f := fun s => ((logw f i (n + k) s : ℝ) : EReal)) (mem_range.mpr h))
    · refine le_max_of_le_right ?_
      have hs' := mem_range.mp hs
      have := Finset.le_sup (f := fun y => ((logw f i (n + k) (n + y) : ℝ) : EReal)) (s := range k) (b := s - n) (mem_range.mpr (by omega))
      simpa only [show n + (s - n) = s by omega] using this
  · refine max_le (Finset.sup_le fun s hs => ?_) (Finset.sup_le fun y hy => ?_)
    · exact Finset.le_sup (f := fun s => ((logw f i (n + k) s : ℝ) : EReal)) (mem_range.mpr (by have := mem_range.mp hs; omega))
    · exact Finset.le_sup (f := fun s => ((logw f i (n + k) s : ℝ) : EReal)) (mem_range.mpr (by have := mem_range.mp hy; omega))

/-- The exponential of the stabiliser's move is the carry factor. -/
theorem exp_carry (n n' : ℕ) (h' : 0 < n') :
    Ideal.exp (((cum f n' - cum f n : ℝ) : EReal) + top f i n - top f i n') = ((carry f i n n' : ℝ) : EReal) := by
  unfold carry
  by_cases h : n = 0
  · subst h
    rw [if_pos rfl, top_zero, EReal.add_bot, sub_eq_add_neg, EReal.bot_add, Ideal.exp_bot, EReal.coe_zero]
  · rw [if_neg h]
    conv_lhs => rw [top_coe f i n (Nat.pos_of_ne_zero h), top_coe f i n' h']
    rw [← EReal.coe_add, ← EReal.coe_sub, Ideal.exp_coe]

/-- A weight's exponential, from the extended stabiliser. -/
theorem exp_wgt (n s : ℕ) (hn : 0 < n) : Ideal.exp (((logw f i n s : ℝ) : EReal) - top f i n) = ((wgt f i n s : ℝ) : EReal) := by
  conv_lhs => rw [top_coe f i n hn]
  rw [← EReal.coe_sub, Ideal.exp_coe]; rfl

/-- A position that is not read has weight nothing. -/
theorem exp_bot_sub (n : ℕ) : Ideal.exp ((⊥ : EReal) - top f i n) = ((0 : ℝ) : EReal) := by
  rw [sub_eq_add_neg, EReal.bot_add, Ideal.exp_bot, EReal.coe_zero]

/-- The exponential of the stabiliser's negative. -/
theorem exp_neg_top (n : ℕ) (hn : 0 < n) : Ideal.exp (-top f i n) = ((Real.exp (-(top f i n).toReal) : ℝ) : EReal) := by
  conv_lhs => rw [top_coe f i n hn]
  rw [← EReal.coe_neg, Ideal.exp_coe]

/-- The carry factor takes old weights to new ones. -/
theorem carry_wgt (n n' s : ℕ) (hs : s < n) : carry f i n n' * wgt f i n s = wgt f i n' s := by
  unfold carry wgt
  rw [if_neg (by omega), ← Real.exp_add, logw_later f i n n' s]
  congr 1; ring

/-- A sum of old terms under the carry factor is the same sum under the new weights. -/
theorem carry_sum (n n' : ℕ) (g : ℕ → ℝ) :
    carry f i n n' * ∑ s ∈ range n, wgt f i n s * g s = ∑ s ∈ range n, wgt f i n' s * g s := by
  rw [mul_sum]
  refine sum_congr rfl fun s hs => ?_
  rw [← mul_assoc, carry_wgt f i n n' s (mem_range.mp hs)]

/-- A weighted sum over the positions read moves on by a stretch of `k` positions. -/
theorem wsum_add (n k : ℕ) (g : ℕ → ℝ) :
    carry f i n (n + k) * (∑ s ∈ range n, wgt f i n s * g s) + ∑ y ∈ range k, wgt f i (n + k) (n + y) * g (n + y)
      = ∑ s ∈ range (n + k), wgt f i (n + k) s * g s := by
  rw [carry_sum, sum_range_add]

end weights

section outputs

variable {dk dv : Type} [Fintype dk] (f i : ℕ → ℝ) (q k : ℕ → dk → ℝ) (v : ℕ → dv → ℝ)

/-- The carried matrix after `n` positions. -/
def matSt (n : ℕ) (a : dk) (e : dv) : ℝ := ∑ s ∈ range n, wgt f i n s * (k s a * v s e)

/-- The carried normaliser after `n` positions. -/
def norSt (n : ℕ) (a : dk) : ℝ := ∑ s ∈ range n, wgt f i n s * k s a

/-- Query `t` against key `s`. -/
def dot (t s : ℕ) : ℝ := ∑ a, q t a * k s a

/-- The numerator at position `t`. -/
def numer (t : ℕ) (e : dv) : ℝ := ∑ s ∈ range (t + 1), wgt f i (t + 1) s * (dot q k t s * v s e)

/-- The signed denominator at position `t`. -/
def denom (t : ℕ) : ℝ := ∑ s ∈ range (t + 1), wgt f i (t + 1) s * dot q k t s

/-- The scan's result at position `t`. -/
def scanOut (t : ℕ) (e : dv) : ℝ :=
  numer f i q k v t e / max |denom f i q k t| (Real.exp (-(top f i (t + 1)).toReal))

/-- The matrix state some positions later. -/
theorem matSt_add (n c : ℕ) (a : dk) (e : dv) :
    carry f i n (n + c) * matSt f i k v n a e + ∑ y ∈ range c, wgt f i (n + c) (n + y) * (k (n + y) a * v (n + y) e)
      = matSt f i k v (n + c) a e := wsum_add f i n c fun s => k s a * v s e

/-- The normaliser state some positions later. -/
theorem norSt_add (n c : ℕ) (a : dk) :
    carry f i n (n + c) * norSt f i k n a + ∑ y ∈ range c, wgt f i (n + c) (n + y) * k (n + y) a
      = norSt f i k (n + c) a := wsum_add f i n c fun s => k s a

/-- The numerator of position `n + x` from the positions `n, …, n + x` and the matrix carried into `n`. -/
theorem numer_add (n x : ℕ) (e : dv) :
    (∑ y ∈ range (x + 1), wgt f i (n + x + 1) (n + y) * (dot q k (n + x) (n + y) * v (n + y) e))
        + carry f i n (n + x + 1) * ∑ a, q (n + x) a * matSt f i k v n a e
      = numer f i q k v (n + x) e := by
  have h : ∑ a, q (n + x) a * matSt f i k v n a e = ∑ s ∈ range n, wgt f i n s * (dot q k (n + x) s * v s e) := by
    unfold matSt dot
    simp only [mul_sum, sum_mul]
    rw [sum_comm]
    exact sum_congr rfl fun s _ => sum_congr rfl fun a _ => by ring
  rw [h, add_comm]
  exact wsum_add f i n (x + 1) fun s => dot q k (n + x) s * v s e

/-- The denominator of position `n + x` from the positions `n, …, n + x` and the normaliser carried into `n`. -/
theorem denom_add (n x : ℕ) :
    (∑ y ∈ range (x + 1), wgt f i (n + x + 1) (n + y) * dot q k (n + x) (n + y))
        + carry f i n (n + x + 1) * ∑ a, q (n + x) a * norSt f i k n a
      = denom f i q k (n + x) := by
  have h : ∑ a, q (n + x) a * norSt f i k n a = ∑ s ∈ range n, wgt f i n s * dot q k (n + x) s := by
    unfold norSt dot
    simp only [mul_sum]
    rw [sum_comm]
    exact sum_congr rfl fun s _ => sum_congr rfl fun a _ => by ring
  rw [h, add_comm]
  exact wsum_add f i n (x + 1) fun s => dot q k (n + x) s

end outputs

section masks

/-- A sum over a block's rows of the rows whose place is at most `x`: the sum over the places up to `x`. -/
theorem sum_upto {c : ℕ} {M : Type} [AddCommMonoid M] (σ : Fin c ≃ Fin c) (x : Fin c) (g : ℕ → M) :
    (∑ r, if σ r ≤ x then g (σ r).val else 0) = ∑ y ∈ range (x.val + 1), g y := by
  rw [Equiv.sum_comp σ (fun y => if y ≤ x then g y.val else 0)]
  show (∑ y : Fin c, if y.val ≤ x.val then g y.val else 0) = _
  rw [Fin.sum_univ_eq_sum_range (fun y => if y ≤ x.val then g y else 0) c, ← sum_filter]
  refine sum_congr ?_ fun _ _ => rfl
  ext y; simp only [mem_filter, mem_range]; have := x.isLt; omega

/-- The same for the largest of a family. -/
theorem sup_upto {c : ℕ} (σ : Fin c ≃ Fin c) (x : Fin c) (g : ℕ → EReal) :
    (univ.sup fun r => if σ r ≤ x then g (σ r).val else ⊥) = (range (x.val + 1)).sup g := by
  apply le_antisymm
  · refine Finset.sup_le fun r _ => ?_
    split
    · next h => exact Finset.le_sup (f := g) (mem_range.mpr (by have : (σ r).val ≤ x.val := h; omega))
    · exact bot_le
  · refine Finset.sup_le fun y hy => ?_
    have hy' := mem_range.mp hy
    have hx := x.isLt
    have := Finset.le_sup (f := fun r => if σ r ≤ x then g (σ r).val else ⊥) (mem_univ (σ.symm ⟨y, by omega⟩))
    simp only [Equiv.apply_symm_apply] at this
    rwa [if_pos (show (⟨y, _⟩ : Fin c) ≤ x from by show y ≤ x.val; omega)] at this

/-- A sum over a block's rows by place. -/
theorem sum_all {c : ℕ} {M : Type} [AddCommMonoid M] (σ : Fin c ≃ Fin c) (g : ℕ → M) :
    ∑ r, g (σ r).val = ∑ y ∈ range c, g y := by
  rw [Equiv.sum_comp σ (fun y => g y.val), Fin.sum_univ_eq_sum_range g c]

/-- The largest over a block's rows, by place. -/
theorem sup_all {c : ℕ} (σ : Fin c ≃ Fin c) (g : ℕ → EReal) : (univ.sup fun r => g (σ r).val) = (range c).sup g := by
  apply le_antisymm
  · exact Finset.sup_le fun r _ => Finset.le_sup (f := g) (mem_range.mpr (σ r).isLt)
  · refine Finset.sup_le fun y hy => ?_
    have := Finset.le_sup (f := fun r => g (σ r).val) (mem_univ (σ.symm ⟨y, mem_range.mp hy⟩))
    simpa only [Equiv.apply_symm_apply] using this

end masks

end Cert.Mlstm

end
-- ==== Proof.Masks.lean ====
/-
  The masks of a block of 256 rows: which row reads which, in the two directions.
-/
module

public import Idealize.ShloMosaic.Lib.Pointwise

@[expose] public section

noncomputable section

namespace Cert.Mlstm

open Idealize.ShloMosaic

/-- The place of a block's row in the order in which direction `d` reads the block: from the front or from the back. -/
def place (d : ℕ) : Fin 256 ≃ Fin 256 := if d = 0 then Equiv.refl _ else Fin.revPerm

/-- The forward direction keeps the order of the rows. -/
theorem place_zero (s t : Fin 256) : place 0 s ≤ place 0 t ↔ s ≤ t := Iff.rfl

/-- The backward direction reverses the order of the rows. -/
theorem place_one (s t : Fin 256) : place 1 s ≤ place 1 t ↔ t ≤ s := Fin.rev_le_rev

/-- A choice by a word that a proposition makes. -/
theorem select_ite {α : Type} (p : Prop) [Decidable p] (a b : α) : Scalar.select (if p then 1#1 else 0#1) a b = if p then a else b := by
  by_cases h : p <;> simp [h, Scalar.select]

/-- The difference of two words, the first not smaller. -/
theorem gap_up (a b : ℕ) (h : b ≤ a) (ha : a < 256) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-- The difference of two words, the first not larger. -/
theorem gap_down (a b : ℕ) (h : a ≤ b) (hb : b < 256) : BitVec.ofNat 32 a - BitVec.ofNat 32 b = 0#32 - BitVec.ofNat 32 (b - a) := by
  apply BitVec.eq_of_toNat_eq
  rw [BitVec.toNat_sub, BitVec.toNat_ofNat, BitVec.toNat_ofNat, BitVec.toNat_sub, BitVec.toNat_ofNat, BitVec.toNat_ofNat]
  omega

/-- The sign test of a distance: only zero is not above zero. -/
theorem sign_up : ∀ a : Fin 256, IntOp.cmpi CmpIPredicate.sle (IntOp.muli (BitVec.ofNat 32 a.val) 1#32) 0#32 = (if a.val = 0 then 1#1 else 0#1)
    ∧ IntOp.cmpi CmpIPredicate.sle (IntOp.muli (0#32 - BitVec.ofNat 32 a.val) 1#32) 0#32 = 1#1
    ∧ IntOp.cmpi CmpIPredicate.sle (IntOp.muli (BitVec.ofNat 32 a.val) 4294967295#32) 0#32 = 1#1
    ∧ IntOp.cmpi CmpIPredicate.sle (IntOp.muli (0#32 - BitVec.ofNat 32 a.val) 4294967295#32) 0#32 = (if a.val = 0 then 1#1 else 0#1)
    ∧ IntOp.cmpi CmpIPredicate.eq (BitVec.ofNat 32 a.val) 0#32 = (if a.val = 0 then 1#1 else 0#1) := by
  decide +kernel

/-- The kernel's comparison of two rows' places in the reading order of direction `d`. -/
theorem mask_at (d : ℕ) (hd : d < 2) (s t : Fin 256) : IntOp.cmpi CmpIPredicate.sle
    (IntOp.muli (IntOp.subi (BitVec.ofNat 32 s.val) (BitVec.ofNat 32 t.val))
      (Scalar.select (Scalar.cmpi CmpIPredicate.eq (BitVec.ofNat 32 d) 0#32) 1#32 4294967295#32)) 0#32
    = if place d s ≤ place d t then 1#1 else 0#1 := by
  have hs := s.isLt
  have ht := t.isLt
  rcases Nat.le_total t.val s.val with h | h
  · have e : IntOp.subi (BitVec.ofNat 32 s.val) (BitVec.ofNat 32 t.val) = BitVec.ofNat 32 (s.val - t.val) := gap_up _ _ h hs
    obtain ⟨h1, -, h3, -⟩ := sign_up ⟨s.val - t.val, by omega⟩
    rw [e]
    obtain rfl | rfl : d = 0 ∨ d = 1 := by omega
    · refine h1.trans (if_congr ?_ rfl rfl)
      rw [place_zero]; show s.val - t.val = 0 ↔ s.val ≤ t.val; omega
    · exact h3.trans (if_pos ((place_one s t).mpr h)).symm
  · have e : IntOp.subi (BitVec.ofNat 32 s.val) (BitVec.ofNat 32 t.val) = 0#32 - BitVec.ofNat 32 (t.val - s.val) := gap_down _ _ h ht
    obtain ⟨-, h2, -, h4, -⟩ := sign_up ⟨t.val - s.val, by omega⟩
    rw [e]
    obtain rfl | rfl : d = 0 ∨ d = 1 := by omega
    · exact h2.trans (if_pos ((place_zero s t).mpr h)).symm
    · refine h4.trans (if_congr ?_ rfl rfl)
      rw [place_one]; show t.val - s.val = 0 ↔ t.val ≤ s.val; omega

/-- The comparison of two rows for equality. -/
theorem eq_word (s t : Fin 256) : IntOp.cmpi CmpIPredicate.eq (BitVec.ofNat 32 s.val) (BitVec.ofNat 32 t.val) = if s = t then 1#1 else 0#1 := by
  have hs := s.isLt
  have ht := t.isLt
  have e : (BitVec.ofNat 32 s.val = BitVec.ofNat 32 t.val) ↔ s = t := by
    constructor
    · intro h
      have := congrArg BitVec.toNat h
      rw [BitVec.toNat_ofNat, BitVec.toNat_ofNat] at this
      exact Fin.ext (by omega)
    · rintro rfl; rfl
  show BitVec.ofBool (BitVec.ofNat 32 s.val == BitVec.ofNat 32 t.val) = _
  by_cases h : s = t
  · subst h; simp
  · rw [if_neg h, beq_eq_false_iff_ne.mpr (fun h' => h (e.mp h'))]; rfl

end Cert.Mlstm

end
-- ==== Proof.Block.lean ====
/-
  What one block of 256 rows computes: from the rows' queries, keys, values and gates and the state carried in, the
  rows' results and the state carried out, each in terms of the real recurrence.
-/
module

public import proofs.«01_k».proof.Proof.Scan
public import proofs.«01_k».proof.Proof.Masks
public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Mlstm

open Idealize.ShloMosaic Cert.KernelIdeal Cert.KernelIdeal.Gen

/-- The bit pattern of minus infinity reads as the least extended real. -/
theorem neg_inf : Ideal.ofBits FTy.f32 4286578688#32 = (⊥ : EReal) := by rfl

/-- Row `t` reads row `s` when `s` has no later place. -/
theorem reads_at (i : grid0.Coords) (t s : Fin 256) :
    k0_pay9 i (ix2 t s) = if place (i 0).val s ≤ place (i 0).val t then 1#1 else 0#1 := by
  pointwise [k0_pay9]
  exact mask_at _ (i 0).isLt s t

/-- Row `t` is read by row `s` when `s` has no earlier place. -/
theorem readBy_at (i : grid0.Coords) (t s : Fin 256) :
    k0_pay10 i (ix2 t s) = if place (i 0).val t ≤ place (i 0).val s then 1#1 else 0#1 := by
  pointwise [k0_pay10]
  exact mask_at _ (i 0).isLt t s

/-- The diagonal. -/
theorem eye_at (t s : Fin 256) : k0_pay11 (ix2 t s) = if s = t then 1#1 else 0#1 := by
  pointwise [k0_pay11]
  exact eq_word s t

section block

variable (f i : ℕ → ℝ) (q k : ℕ → Fin 128 → ℝ) (v : ℕ → Fin 256 → ℝ) (n : ℕ) (σ : Fin 256 ≃ Fin 256)

/-- The gates, masks and running sums of the block at positions `n, …, n + 255`, and the stabiliser carried in. -/
structure Rows (v4 : FVec Ideal S1x256 .f32) (v15 v20 v21 : IVec S256x256 1) (v33 : FVec Ideal S256x1 .f32) (z : Ideal .f32)
    (v35 : FVec Ideal S256x256 .f32) (v41 : FVec Ideal S1x1 .f32) (v42 : Vec Ideal S1x1 .f32) : Prop where
  gate : ∀ s, (v4 (ix2 0 s) : EReal) = ((i (n + (σ s).val) : ℝ) : EReal)
  reads : ∀ t s, v15 (ix2 t s) = if σ s ≤ σ t then 1#1 else 0#1
  readBy : ∀ t s, v20 (ix2 t s) = if σ t ≤ σ s then 1#1 else 0#1
  eye : ∀ t s : Fin 256, v21 (ix2 t s) = if s = t then 1#1 else 0#1
  cumCol : ∀ t, (v33 (ix2 t 0) : EReal) = ((cum f (n + (σ t).val + 1) - cum f n : ℝ) : EReal)
  zero : (z : EReal) = 0
  fcol : ∀ t s, (v35 (ix2 t s) : EReal) = ((f (n + (σ t).val) : ℝ) : EReal)
  total : (v41 (ix2 0 0) : EReal) = ((cum f (n + 256) - cum f n : ℝ) : EReal)
  stab : (v42 (ix2 0 0) : EReal) = top f i n

variable {f i n σ}
variable {v4 : FVec Ideal S1x256 .f32} {v15 v20 v21 : IVec S256x256 1} {v33 : FVec Ideal S256x1 .f32} {z : Ideal .f32}
    {v35 : FVec Ideal S256x256 .f32} {v41 : FVec Ideal S1x1 .f32} {v42 : Vec Ideal S1x1 .f32}
    (H : Rows f i n σ v4 v15 v20 v21 v33 z v35 v41 v42)

include H

/-- The row of cumulative log forget gates within a block, at a place: the sum over the block's positions up to it. -/
theorem cumRow_at (s : Fin 256) : (k0_pay14 v20 z v35 (ix2 0 s) : EReal) = ((cum f (n + (σ s).val + 1) - cum f n : ℝ) : EReal) := by
  pointwise [k0_pay14]
  simp only [H.readBy, H.fcol, H.zero, select_ite]
  rw [sum_upto σ (σ s) fun y => ((f (n + y) : ℝ) : EReal), coe_sum, ← cum_add, add_assoc]

/-- The log weights of the block's pairs, at a pair: the weight where the key's position is not after the query's, else minus infinity. -/
theorem dmat_at (t s : Fin 256) : (k0_pay16 v4 v15 v20 v33 z v35 (ix2 t s) : EReal)
    = if σ s ≤ σ t then ((logw f i (n + (σ t).val + 1) (n + (σ s).val) : ℝ) : EReal) else ⊥ := by
  pointwise [k0_pay16]
  rw [cumRow_at H]
  simp only [H.reads, H.cumCol, H.gate, select_ite, neg_inf]
  refine if_congr Iff.rfl ?_ rfl
  rw [← EReal.coe_sub, ← EReal.coe_add]
  congr 1; unfold logw; ring

/-- The log weight of the carried state at a row. -/
theorem inter_at (t : Fin 256) : (k0_pay17 v33 v42 (ix2 t 0) : EReal)
    = ((cum f (n + (σ t).val + 1) - cum f n : ℝ) : EReal) + top f i n := by
  pointwise [k0_pay17]
  rw [H.cumCol, H.stab]

/-- The stabiliser at a row: the largest log weight among all positions up to it. -/
theorem stab_at (t : Fin 256) : (k0_pay18 v4 v15 v20 v33 z v35 v42 (ix2 t 0) : EReal) = top f i (n + (σ t).val + 1) := by
  pointwise [k0_pay18]
  rw [inter_at H, add_assoc, top_add, neg_inf]
  congr 1
  simp only [dmat_at H]
  exact sup_upto σ (σ t) fun y => ((logw f i (n + (σ t).val + 1) (n + y) : ℝ) : EReal)

/-- The factor on the carried state at a row. -/
theorem carry_at (t : Fin 256) : (k0_pay19 v4 v15 v20 v33 z v35 v42 (ix2 t 0) : EReal) = ((carry f i n (n + (σ t).val + 1) : ℝ) : EReal) := by
  pointwise [k0_pay19]
  rw [inter_at H, stab_at H]
  exact exp_carry f i n _ (Nat.succ_pos _)

section results

variable {q k : ℕ → Fin 128 → ℝ} {v : ℕ → Fin 256 → ℝ}
  {x0 x1 : Vec Ideal S256x128 .bf16} {x2 : Vec Ideal S128x256 .bf16} {x3 : Vec Ideal S256x256 .f32}
  {C : Vec Ideal S128x256 .f32} {N : Vec Ideal S1x128 .f32}
  (hq : ∀ r a, (x0 (ix2 r a) : EReal) = ((q (n + (σ r).val) a : ℝ) : EReal))
  (hk : ∀ r a, (x1 (ix2 r a) : EReal) = ((k (n + (σ r).val) a : ℝ) : EReal))
  (hkt : ∀ a r, (x2 (ix2 a r) : EReal) = ((k (n + (σ r).val) a : ℝ) : EReal))
  (hv : ∀ r e, (x3 (ix2 r e) : EReal) = ((v (n + (σ r).val) e : ℝ) : EReal))
  (hC : ∀ a e, (C (ix2 a e) : EReal) = ((matSt f i k v n a e : ℝ) : EReal))
  (hN : ∀ a, (N (ix2 0 a) : EReal) = ((norSt f i k n a : ℝ) : EReal))

section scores
include hq hkt

/-- The weighted scores of the block. -/
theorem score_at (t s : Fin 256) : (k0_pay20 v4 v15 v20 v33 z v35 v42 x0 x2 (ix2 t s) : EReal)
    = ((if σ s ≤ σ t then wgt f i (n + (σ t).val + 1) (n + (σ s).val) * dot q k (n + (σ t).val) (n + (σ s).val) else 0 : ℝ) : EReal) := by
  pointwise [k0_pay20]
  rw [stab_at H, dmat_at H]
  simp only [hq, hkt, ← EReal.coe_mul, coe_sum]
  split
  · rw [exp_wgt f i _ _ (Nat.succ_pos _), ← EReal.coe_mul, mul_comm]; rfl
  · rw [exp_bot_sub, ← EReal.coe_mul, mul_zero]

include hN in
/-- The signed denominators of the block. -/
theorem den_at (t : Fin 256) : (k0_pay21 v4 v15 v20 v33 z v35 v42 x0 x2 N (ix2 t 0) : EReal) = ((denom f i q k (n + (σ t).val) : ℝ) : EReal) := by
  pointwise [k0_pay21]
  rw [carry_at H]
  simp only [score_at H hq hkt, hq, hN, ← EReal.coe_mul, coe_sum, ← EReal.coe_add]
  rw [sum_upto σ (σ t) fun y => wgt f i (n + (σ t).val + 1) (n + y) * dot q k (n + (σ t).val) (n + y), denom_add]

include hN hv hC in
/-- The block's results. -/
theorem out_at (u : Fin 1) (t e : Fin 256) : (k0_pay24 (k0_pay18 v4 v15 v20 v33 z v35 v42) (k0_pay19 v4 v15 v20 v33 z v35 v42) x0
    (k0_pay21 v4 v15 v20 v33 z v35 v42 x0 x2 N) (k0_pay22 v4 v15 v20 v33 z v35 v42 x0 x2) (k0_pay23 x3)
    (constant S256x256 .f32 0x00000000#32) C (ix3 u t e) : EReal) = ((scanOut f i q k v (n + (σ t).val) e : ℝ) : EReal) := by
  pointwise [k0_pay24, k0_pay22, k0_pay23]
  rw [carry_at H, stab_at H, den_at H hq hkt hN]
  simp only [score_at H hq hkt, hq, hv, hC, ← EReal.coe_mul, coe_sum, ← EReal.coe_add]
  rw [show (0 : EReal) - top f i (n + (σ t).val + 1) = -top f i (n + (σ t).val + 1) from zero_sub _,
    exp_neg_top f i (n + (σ t).val + 1) (Nat.succ_pos _)]
  rw [absf_coe, coe_max, div_pos_coe _ _ (lt_max_of_lt_right (Real.exp_pos _))]
  congr 1
  unfold scanOut
  congr 1
  rw [← numer_add, ← sum_upto σ (σ t) fun y => wgt f i (n + (σ t).val + 1) (n + y) * (dot q k (n + (σ t).val) (n + y) * v (n + y) e)]
  congr 1
  refine Finset.sum_congr rfl fun s _ => ?_
  split
  · ring
  · rw [zero_mul]

end scores

section states

/-- The log weights of the block's rows once the block is read. -/
theorem dec_at (s : Fin 256) : (k0_pay25 v4 (k0_pay14 v20 z v35) v41 (ix2 0 s) : EReal) = ((logw f i (n + 256) (n + (σ s).val) : ℝ) : EReal) := by
  pointwise [k0_pay25]
  rw [H.total, cumRow_at H, H.gate, ← EReal.coe_sub, ← EReal.coe_add]
  congr 1; unfold logw; ring

/-- The stabiliser carried out. -/
theorem stabOut_at : (k0_pay26 v4 (k0_pay14 v20 z v35) v41 v42 (ix2 0 0) : EReal) = top f i (n + 256) := by
  pointwise [k0_pay26]
  rw [H.total, H.stab, top_add, neg_inf]
  congr 1
  simp only [dec_at H]
  exact sup_all σ fun y => ((logw f i (n + 256) (n + y) : ℝ) : EReal)

/-- The factor on the carried state at the end of the block. -/
theorem carryOut_at : (k0_pay27 v4 (k0_pay14 v20 z v35) v41 v42 (ix2 0 0) : EReal) = ((carry f i n (n + 256) : ℝ) : EReal) := by
  pointwise [k0_pay27]
  rw [stabOut_at H, H.total, H.stab]
  exact exp_carry f i n _ (Nat.succ_pos _)

/-- The weight of a row in the state at the end of the block. -/
theorem weight_at (t : Fin 256) : (k0_pay28 v4 v21 (k0_pay14 v20 z v35) v41 v42 (ix2 t 0) : EReal) = ((wgt f i (n + 256) (n + (σ t).val) : ℝ) : EReal) := by
  pointwise [k0_pay28]
  simp only [dec_at H, stabOut_at H, H.eye, select_ite, exp_wgt f i (n + 256) _ (Nat.succ_pos _)]
  rw [Finset.sum_ite_eq' Finset.univ t, if_pos (Finset.mem_univ t)]

include hkt hv hC in
/-- The matrix carried out. -/
theorem matOut_at (a : Fin 128) (e : Fin 256) : (k0_pay1 (k0_pay29 v4 (k0_pay14 v20 z v35) v41 v42 C) (k0_pay30 x2) (k0_pay31 v4 v21 (k0_pay14 v20 z v35) v41 v42 x3)
    (constant S128x256 .f32 0x00000000#32) (ix2 a e) : EReal) = ((matSt f i k v (n + 256) a e : ℝ) : EReal) := by
  pointwise [k0_pay1, k0_pay29, k0_pay30, k0_pay31]
  rw [carryOut_at H]
  simp only [weight_at H, hkt, hv, hC, ← EReal.coe_mul, coe_sum, ← EReal.coe_add]
  rw [← matSt_add, ← sum_all σ fun y => wgt f i (n + 256) (n + y) * (k (n + y) a * v (n + y) e)]
  congr 2
  exact Finset.sum_congr rfl fun s _ => by ring

include hk hN in
/-- The normaliser carried out. -/
theorem norOut_at (a : Fin 128) : (k0_pay2 (k0_pay27 v4 (k0_pay14 v20 z v35) v41 v42) (k0_pay28 v4 v21 (k0_pay14 v20 z v35) v41 v42) N x1 (ix2 0 a) : EReal)
    = ((norSt f i k (n + 256) a : ℝ) : EReal) := by
  pointwise [k0_pay2]
  rw [carryOut_at H]
  simp only [weight_at H, hk, hN, ← EReal.coe_mul, coe_sum, ← EReal.coe_add]
  rw [← norSt_add, ← sum_all σ fun y => wgt f i (n + 256) (n + y) * k (n + y) a]

/-- The stabiliser carried out, as it is stored. -/
theorem topOut_at : (k0_pay3 (k0_pay26 v4 (k0_pay14 v20 z v35) v41 v42) (ix2 0 0) : EReal) = top f i (n + 256) := by
  pointwise [k0_pay3]
  exact stabOut_at H

end states

end results

end block

/-- The gates of a block, as the kernel reads them, make its rows. -/
theorem rows {f i : ℕ → ℝ} {n d : ℕ} (cd : grid0.Coords) (hd : (cd 0).val = d) (X : Vec Ideal S1x1x2x256 .f32) (M : Vec Ideal S1x1 .f32)
    (hi : ∀ r : Fin 256, (X (ix4 0 0 0 r) : EReal) = ((i (n + (place d r).val) : ℝ) : EReal))
    (hf : ∀ r : Fin 256, (X (ix4 0 0 1 r) : EReal) = ((f (n + (place d r).val) : ℝ) : EReal))
    (hM : (M (ix2 0 0) : EReal) = top f i n) :
    Rows f i n (place d)
      (k0_pay7 (View.ld X (Rect.unit (s := S1x1x2x256) ![0, 0, 0, 0] S1x1x1x256.size inb_S1x1x2x256_S1x1x1x256_0_0_0_0)))
      (k0_pay9 cd) (k0_pay10 cd) k0_pay11
      (k0_pay12 cd (View.ld X (Rect.unit (s := S1x1x2x256) ![0, 0, 1, 0] S1x1x1x256.size inb_S1x1x2x256_S1x1x1x256_0_0_1_0)))
      (FloatOps.ofBits FTy.f32 0#32)
      (k0_pay13 (View.ld X (Rect.unit (s := S1x1x2x256) ![0, 0, 1, 0] S1x1x1x256.size inb_S1x1x2x256_S1x1x1x256_0_0_1_0)))
      (k0_pay15 (k0_pay8 (View.ld X (Rect.unit (s := S1x1x2x256) ![0, 0, 1, 0] S1x1x1x256.size inb_S1x1x2x256_S1x1x1x256_0_0_1_0))))
      M := by
  subst hd
  have hf' : ∀ r : Fin 256, (k0_pay8 (View.ld X (Rect.unit (s := S1x1x2x256) ![0, 0, 1, 0] S1x1x1x256.size inb_S1x1x2x256_S1x1x1x256_0_0_1_0)) (ix2 0 r) : EReal)
      = ((f (n + (place (cd 0).val r).val) : ℝ) : EReal) := fun r => by
    pointwise [k0_pay8]
    exact hf r
  refine ⟨fun s => ?_, fun t s => reads_at cd t s, fun t s => readBy_at cd t s, eye_at, fun t => ?_, ?_, fun t s => ?_, ?_, hM⟩
  · pointwise [k0_pay7]
    exact hi s
  · pointwise [k0_pay12]
    simp only [reads_at, select_ite, hf']
    rw [sum_upto (place (cd 0).val) _ fun y => ((f (n + y) : ℝ) : EReal), coe_sum, ← cum_add, add_assoc]
  · exact Ideal.ofBits_zero .f32
  · pointwise [k0_pay13]
    simp only [eye_at, select_ite, hf']
    rw [Finset.sum_ite_eq' Finset.univ t, if_pos (Finset.mem_univ t)]
  · pointwise [k0_pay15]
    simp only [hf']
    rw [sum_all (place (cd 0).val) fun y => ((f (n + y) : ℝ) : EReal), coe_sum, ← cum_add]

end Cert.Mlstm

end
-- ==== Proof.Blocks.lean ====
/-
  Where the scan's blocks lie in the arrays: the input blocks of a grid point at an index.
-/
module

public import proofs.«01_k».proof.Proof.Masks
public import proofs.«01_k».proof.Proof.Gen.KernelIdeal.Value
public import Idealize.ShloMosaic.Lib.Pipeline.ValueKit

@[expose] public section

set_option maxRecDepth 16384

noncomputable section

namespace Cert.Mlstm

open Idealize.ShloMosaic Idealize.ShloMosaic.TcCoe Idealize.SL.Sem Cert.KernelIdeal Cert.KernelIdeal.Gen

/-- The row at which direction `d` finds position `p`: the context's 256 rows come before the latent ones. -/
def rowAt (d p : ℕ) : ℕ := if d = 0 then (if p < 256 then 8192 + p else p - 256) else 8447 - p

/-- The block of rows that step `s` of direction `d` reads. -/
def blkAt (d s : ℕ) : ℕ := if s = 0 then 32 else if d = 0 then s - 1 else 32 - s

/-- A direction's position within a step is a row of the step's block. -/
theorem rowAt_blk (d s : ℕ) (hd : d < 2) (hs : s < 33) (r : Fin 256) : rowAt d (256 * s + (place d r).val) = blkAt d s * 256 + r.val := by
  have hr := r.isLt
  obtain rfl | rfl : d = 0 ∨ d = 1 := by omega
  · have : (place 0 r).val = r.val := rfl
    rw [this]; unfold rowAt blkAt; split_ifs <;> omega
  · have : (place 1 r).val = 255 - r.val := by show (Fin.rev r).val = _; rw [Fin.val_rev]; omega
    rw [this]; unfold rowAt blkAt; rw [if_neg one_ne_zero, if_neg one_ne_zero]; split <;> omega

/-- Which blocks a grid point reads and writes. -/
theorem idx : ∀ t : Fin cfg0.N,
    win0_0.index t = ![blkAt (t.val / 264) (t.val % 33), t.val / 33 % 8]
    ∧ win0_1.index t = ![blkAt (t.val / 264) (t.val % 33), 8 + t.val / 33 % 8]
    ∧ win0_2.index t = ![t.val / 33 % 8, blkAt (t.val / 264) (t.val % 33)]
    ∧ win0_3.index t = ![blkAt (t.val / 264) (t.val % 33), 8 + t.val / 33 % 8]
    ∧ win0_4.index t = ![t.val / 264, t.val / 33 % 8, 0, blkAt (t.val / 264) (t.val % 33)]
    ∧ win0_5.index t = ![t.val / 264, blkAt (t.val / 264) (t.val % 33), t.val / 33 % 8]
    ∧ (grid0.coords t 0).val = t.val / 264 :=
  (by decide +kernel : ∀ t : Fin grid0.N, _)

variable (m : (ℓ : Loc nD τ sig) → Buf (Elt Ideal) ℓ) (c : Dev nD)

/-- The kernel's argument arrays. -/
abbrev A0 : FVec Ideal S8448x2048 .bf16 := m ((c : Thread nD τ).loc main_arg0)
/-- The rows of the input projection, which hold the values. -/
abbrev A1 : FVec Ideal S8448x16896 .f32 := m ((c : Thread nD τ).loc main_arg1)
/-- The gates. -/
abbrev A2 : FVec Ideal S2x8x2x8448 .f32 := m ((c : Thread nD τ).loc main_arg2)

/-- The grid has 528 points, and a step works on one of 33 blocks of rows. -/
theorem blk_lt (t : Fin cfg0.N) : t.val < 528 ∧ blkAt (t.val / 264) (t.val % 33) < 33 := by
  have ht : t.val < 528 := lt_of_lt_of_eq t.isLt N_0
  refine ⟨ht, ?_⟩
  unfold blkAt; split <;> (try split) <;> omega

/-- An entry of the queries' block is one of the array's. -/
theorem q_read (t : Fin cfg0.N) (r : Fin 256) (a : Fin 128) (R : Fin 8448) (Cc : Fin 2048)
    (hR : R.val = blkAt (t.val / 264) (t.val % 33) * 256 + r.val) (hC : Cc.val = t.val / 33 % 8 * 128 + a.val) :
    (iblk m c 0 t : Vec Ideal S256x128 .bf16) (ix2 r a) = A0 m c (ix2 R Cc) := by
  blk_ext [iblk, V, idx t]

/-- An entry of the keys' block is one of the array's. -/
theorem k_read (t : Fin cfg0.N) (r : Fin 256) (a : Fin 128) (R : Fin 8448) (Cc : Fin 2048)
    (hR : R.val = blkAt (t.val / 264) (t.val % 33) * 256 + r.val) (hC : Cc.val = 1024 + t.val / 33 % 8 * 128 + a.val) :
    (iblk m c 1 t : Vec Ideal S256x128 .bf16) (ix2 r a) = A0 m c (ix2 R Cc) := by
  blk_ext [iblk, V, idx t]

/-- An entry of the values' block is one of the array's. -/
theorem v_read (t : Fin cfg0.N) (r : Fin 256) (e : Fin 256) (R : Fin 8448) (Cc : Fin 16896)
    (hR : R.val = blkAt (t.val / 264) (t.val % 33) * 256 + r.val) (hC : Cc.val = 2048 + t.val / 33 % 8 * 256 + e.val) :
    (iblk m c 3 t : Vec Ideal S256x256 .f32) (ix2 r e) = A1 m c (ix2 R Cc) := by
  blk_ext [iblk, V, idx t]

/-- An entry of the gates' block is one of the array's. -/
theorem g_read (t : Fin cfg0.N) (r : Fin 256) (w : Fin 2) (R : Fin 8448) (z : Fin 2) (h : Fin 8)
    (hR : R.val = blkAt (t.val / 264) (t.val % 33) * 256 + r.val) (hz : z.val = t.val / 264) (hh : h.val = t.val / 33 % 8) :
    (iblk m c 4 t : Vec Ideal S1x1x2x256 .f32) (ix4 0 0 w r) = A2 m c (ix4 z h w R) := by
  blk_ext [iblk, V, idx t]

/-- The keys' block comes from the transposed key columns. -/
theorem kt_read (t : Fin cfg0.N) (r : Fin 256) (a : Fin 128) (R : Fin 8448) (Cc : Fin 2048)
    (hR : R.val = blkAt (t.val / 264) (t.val % 33) * 256 + r.val) (hC : Cc.val = 1024 + t.val / 33 % 8 * 128 + a.val) :
    (iblk m c 2 t : Vec Ideal S128x256 .bf16) (ix2 a r) = A0 m c (ix2 R Cc) := by
  blk_simp [iblk, idx t]
  entry_read
  pointwise
  blk_ext [idx t]

end Cert.Mlstm

end
-- ==== Proof.State.lean ====
/-
  The scan over a direction's blocks: what every grid point leaves in the output block and in the three carried buffers,
  and the result array after the run, in terms of the real recurrence over the arguments.
-/
module

public import proofs.«01_k».proof.Proof.Block
public import proofs.«01_k».proof.Proof.Blocks
public import Idealize.ShloMosaic.Lib.Pipeline.ReadBack

@[expose] public section

set_option maxRecDepth 16384

noncomputable section

namespace Cert.Mlstm

open Idealize.ShloMosaic Idealize.ShloMosaic.TcCoe Idealize.SL.Sem Cert.KernelIdeal Cert.KernelIdeal.Gen

/-- The row of a position, as an index of the arrays. -/
def rowF (d p : ℕ) : Fin 8448 := Fin.ofNat 8448 (rowAt d p)

/-- The queries of head `h` in direction `d`, by position. -/
def qOf (X : FVec Ideal S8448x2048 .bf16) (d : ℕ) (h : Fin 8) (p : ℕ) (a : Fin 128) : ℝ :=
  EReal.toReal (X (ix2 (rowF d p) ⟨h.val * 128 + a.val, by omega⟩))

/-- The keys of head `h` in direction `d`, by position. -/
def kOf (X : FVec Ideal S8448x2048 .bf16) (d : ℕ) (h : Fin 8) (p : ℕ) (a : Fin 128) : ℝ :=
  EReal.toReal (X (ix2 (rowF d p) ⟨1024 + h.val * 128 + a.val, by omega⟩))

/-- The values of head `h` in direction `d`, by position. -/
def vOf (X : FVec Ideal S8448x16896 .f32) (d : ℕ) (h : Fin 8) (p : ℕ) (e : Fin 256) : ℝ :=
  EReal.toReal (X (ix2 (rowF d p) ⟨2048 + h.val * 256 + e.val, by omega⟩))

/-- The log gates of head `h` in direction `d`, by position: the input gate's (`w = 0`) and the forget gate's (`w = 1`). -/
def gOf (X : FVec Ideal S2x8x2x8448 .f32) (w : Fin 2) (d : Fin 2) (h : Fin 8) (p : ℕ) : ℝ :=
  EReal.toReal (X (ix4 d h w (rowF d.val p)))

/-- The scan's result for direction `d`, head `h`, position `p`, column `e` of the head. -/
def result (X0 : FVec Ideal S8448x2048 .bf16) (X1 : FVec Ideal S8448x16896 .f32) (X2 : FVec Ideal S2x8x2x8448 .f32)
    (d : Fin 2) (h : Fin 8) (p : ℕ) (e : Fin 256) : ℝ :=
  scanOut (gOf X2 1 d h) (gOf X2 0 d h) (qOf X0 d.val h) (kOf X0 d.val h) (vOf X1 d.val h) p e

/-- The position at which direction `d` reads a row. -/
def posAt (d R : ℕ) : ℕ := if d = 0 then (if R < 8192 then R + 256 else R - 8192) else 8447 - R

/-- The scan's results laid out as the kernel's result array: direction, row, head and column. -/
def scanArray (X0 : FVec Ideal S8448x2048 .bf16) (X1 : FVec Ideal S8448x16896 .f32) (X2 : FVec Ideal S2x8x2x8448 .f32) :
    FVec Ideal S2x8448x2048 .f32 := fun j =>
  ((result X0 X1 X2 (j 0) ⟨(j 2).val / 256, Nat.div_lt_of_lt_mul (j 2).isLt⟩ (posAt (j 0).val (j 1).val)
    ⟨(j 2).val % 256, Nat.mod_lt _ (by decide)⟩ : ℝ) : EReal)

/-- Equal rows and columns give equal results. -/
theorem result_congr (X0 : FVec Ideal S8448x2048 .bf16) (X1 : FVec Ideal S8448x16896 .f32) (X2 : FVec Ideal S2x8x2x8448 .f32)
    {d d' : Fin 2} {h h' : Fin 8} {p p' : ℕ} {e e' : Fin 256} (hd : d = d') (hh : h = h') (hp : p = p') (he : e = e') :
    result X0 X1 X2 d h p e = result X0 X1 X2 d' h' p' e' := by
  subst hd; subst hh; subst hp; subst he; rfl

/-- Every element of an array is a real number. -/
def Real' {s : Shape} {φ : FTy} (X : FVec Ideal s φ) : Prop := ∀ j, (X j : EReal) = ((EReal.toReal (X j) : ℝ) : EReal)

variable (m : (ℓ : Loc nD τ sig) → Buf (Elt Ideal) ℓ) (c : Dev nD)

/-- The direction of a grid point. -/
def dirOf (t : Fin cfg0.N) : Fin 2 := ⟨t.val / 264, by have := (blk_lt t).1; omega⟩
/-- The head of a grid point. -/
def headOf (t : Fin cfg0.N) : Fin 8 := ⟨t.val / 33 % 8, by omega⟩

/-- A position of a step is the row it reads. -/
theorem rowF_blk (t : Fin cfg0.N) (r : Fin 256) :
    (rowF (dirOf t).val (256 * (t.val % 33) + (place (dirOf t).val r).val)).val = blkAt (t.val / 264) (t.val % 33) * 256 + r.val := by
  have h := rowAt_blk (dirOf t).val (t.val % 33) (dirOf t).isLt (by omega) r
  have hb := (blk_lt t).2
  have hr := r.isLt
  show rowAt _ _ % 8448 = _
  rw [h]; show (blkAt (t.val / 264) _ * 256 + r.val) % 8448 = _
  omega

variable (h0 : Real' (A0 m c)) (h1 : Real' (A1 m c)) (h2 : Real' (A2 m c))

section reads
variable (t : Fin cfg0.N)

include h0 in
/-- An entry of a step's queries, as a real number. -/
theorem q_at (r : Fin 256) (a : Fin 128) : ((iblk m c 0 t : Vec Ideal S256x128 .bf16) (ix2 r a) : EReal)
    = ((qOf (A0 m c) (dirOf t).val (headOf t) (256 * (t.val % 33) + (place (dirOf t).val r).val) a : ℝ) : EReal) :=
  (q_read m c t r a _ _ (rowF_blk t r) rfl).trans (h0 _)

include h0 in
/-- An entry of a step's keys, as a real number. -/
theorem k_at (r : Fin 256) (a : Fin 128) : ((iblk m c 1 t : Vec Ideal S256x128 .bf16) (ix2 r a) : EReal)
    = ((kOf (A0 m c) (dirOf t).val (headOf t) (256 * (t.val % 33) + (place (dirOf t).val r).val) a : ℝ) : EReal) :=
  (k_read m c t r a _ _ (rowF_blk t r) rfl).trans (h0 _)

include h0 in
/-- An entry of a step's transposed keys, as a real number. -/
theorem kt_at (a : Fin 128) (r : Fin 256) : ((iblk m c 2 t : Vec Ideal S128x256 .bf16) (ix2 a r) : EReal)
    = ((kOf (A0 m c) (dirOf t).val (headOf t) (256 * (t.val % 33) + (place (dirOf t).val r).val) a : ℝ) : EReal) :=
  (kt_read m c t r a _ _ (rowF_blk t r) rfl).trans (h0 _)

include h1 in
/-- An entry of a step's values, as a real number. -/
theorem v_at (r e : Fin 256) : ((iblk m c 3 t : Vec Ideal S256x256 .f32) (ix2 r e) : EReal)
    = ((vOf (A1 m c) (dirOf t).val (headOf t) (256 * (t.val % 33) + (place (dirOf t).val r).val) e : ℝ) : EReal) :=
  (v_read m c t r e _ _ (rowF_blk t r) rfl).trans (h1 _)

include h2 in
/-- An entry of a step's gates, as a real number. -/
theorem g_at (w : Fin 2) (r : Fin 256) : ((iblk m c 4 t : Vec Ideal S1x1x2x256 .f32) (ix4 0 0 w r) : EReal)
    = ((gOf (A2 m c) w (dirOf t) (headOf t) (256 * (t.val % 33) + (place (dirOf t).val r).val) : ℝ) : EReal) :=
  (g_read m c t r w _ _ _ (rowF_blk t r) rfl rfl).trans (h2 _)

/-- The grid's first coordinate is the direction. -/
theorem dir_at : ((grid0.coords t) 0).val = (dirOf t).val := (idx t).2.2.2.2.2.2

end reads

/-- The carried buffers hold the state of direction `d`, head `h` after `n` positions. -/
structure Carried (d : Fin 2) (h : Fin 8) (n : ℕ) (C : Vec Ideal S128x256 .f32) (N : Vec Ideal S1x128 .f32) (M : Vec Ideal S1x1 .f32) : Prop where
  mat : ∀ a e, (C (ix2 a e) : EReal) = ((matSt (gOf (A2 m c) 1 d h) (gOf (A2 m c) 0 d h) (kOf (A0 m c) d.val h) (vOf (A1 m c) d.val h) n a e : ℝ) : EReal)
  nor : ∀ a, (N (ix2 0 a) : EReal) = ((norSt (gOf (A2 m c) 1 d h) (gOf (A2 m c) 0 d h) (kOf (A0 m c) d.val h) n a : ℝ) : EReal)
  stab : (M (ix2 0 0) : EReal) = top (gOf (A2 m c) 1 d h) (gOf (A2 m c) 0 d h) n

/-- Before the first position nothing is carried. -/
theorem carried_zero (d : Fin 2) (h : Fin 8) : Carried m c d h 0 (k0_pay4 (F := Ideal)) (k0_pay5 (F := Ideal)) (k0_pay6 (F := Ideal)) := by
  refine ⟨fun a e => ?_, fun a => ?_, ?_⟩
  · pointwise [k0_pay4]; rfl
  · pointwise [k0_pay5]; rfl
  · pointwise [k0_pay6]; rfl

/-- What a grid point leaves: its block's results and the state after its block. -/
structure Left (t : Fin cfg0.N) (o : Vec Ideal S1x256x256 .f32 × Vec Ideal S128x256 .f32 × Vec Ideal S1x128 .f32 × Vec Ideal S1x1 .f32) : Prop where
  out : ∀ (u : Fin 1) (r e : Fin 256), (o.1 (ix3 u r e) : EReal)
    = ((result (A0 m c) (A1 m c) (A2 m c) (dirOf t) (headOf t) (256 * (t.val % 33) + (place (dirOf t).val r).val) e : ℝ) : EReal)
  next : Carried m c (dirOf t) (headOf t) (256 * (t.val % 33) + 256) o.2.1 o.2.2.1 o.2.2.2

include h0 h1 h2

/-- A grid point that starts from the carried state after the blocks before it leaves its results and the state after its block. -/
theorem left_first (t : Fin cfg0.N) (h : t.val % 33 = 0) : Left m c t (outsAt0 m c t.val t.isLt) := by
  have hz := carried_zero m c (dirOf t) (headOf t)
  have e : 256 * (t.val % 33) = 0 := by omega
  rw [← e] at hz
  have H := rows (grid0.coords t) (dir_at t) (iblk m c 4 t) _ (g_at m c h2 t 0) (g_at m c h2 t 1) hz.stab
  rw [outsAt0_A m c t h]
  refine ⟨fun u r e => ?_, fun a e => ?_, fun a => ?_, ?_⟩
  · frame_out
    exact out_at H (q_at m c h0 t) (kt_at m c h0 t) (v_at m c h1 t) hz.mat hz.nor u r e
  · frame_out
    exact matOut_at H (kt_at m c h0 t) (v_at m c h1 t) hz.mat a e
  · frame_out
    exact norOut_at H (k_at m c h0 t) hz.nor a
  · frame_out
    exact topOut_at H

/-- What a step finds is what the one before it left. -/
theorem left_next (t : Fin cfg0.N) (h : ¬t.val % 33 = 0)
    (hz : Carried m c (dirOf t) (headOf t) (256 * (t.val % 33)) (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) : Left m c t (outsAt0 m c t.val t.isLt) := by
  have H := rows (grid0.coords t) (dir_at t) (iblk m c 4 t) _ (g_at m c h2 t 0) (g_at m c h2 t 1) hz.stab
  rw [outsAt0_B m c t h]
  refine ⟨fun u r e => ?_, fun a e => ?_, fun a => ?_, ?_⟩
  · frame_out
    simp only [read_unread_whole]
    exact out_at H (q_at m c h0 t) (kt_at m c h0 t) (v_at m c h1 t) hz.mat hz.nor u r e
  · frame_out
    simp only [read_unread_whole]
    exact matOut_at H (kt_at m c h0 t) (v_at m c h1 t) hz.mat a e
  · frame_out
    simp only [read_unread_whole]
    exact norOut_at H (k_at m c h0 t) hz.nor a
  · frame_out
    simp only [read_unread_whole]
    exact topOut_at H

/-- Every grid point leaves its block's results and the state after its block. -/
theorem left_all : ∀ (n : ℕ) (hn : n < cfg0.N), Left m c ⟨n, hn⟩ (outsAt0 m c n hn)
  | 0, hn => left_first m c h0 h1 h2 ⟨0, hn⟩ rfl
  | n + 1, hn => by
    by_cases h : (n + 1) % 33 = 0
    · exact left_first m c h0 h1 h2 ⟨n + 1, hn⟩ h
    · have ih := (left_all n (by omega)).next
      refine left_next m c h0 h1 h2 ⟨n + 1, hn⟩ h ?_
      have e1 : dirOf ⟨n + 1, hn⟩ = dirOf ⟨n, by omega⟩ := Fin.ext (by show (n + 1) / 264 = n / 264; omega)
      have e2 : headOf ⟨n + 1, hn⟩ = headOf ⟨n, by omega⟩ := Fin.ext (by show (n + 1) / 33 % 8 = n / 33 % 8; omega)
      have e3 : 256 * ((⟨n + 1, hn⟩ : Fin cfg0.N).val % 33) = 256 * ((⟨n, by omega⟩ : Fin cfg0.N).val % 33) + 256 := by
        show 256 * ((n + 1) % 33) = 256 * (n % 33) + 256; omega
      rw [e1, e2, e3]
      exact ih

omit h0 h1 h2 in
/-- A row of a step's block is the position it is read at. -/
theorem posAt_blk (t : Fin cfg0.N) (r : Fin 256) :
    posAt (t.val / 264) (blkAt (t.val / 264) (t.val % 33) * 256 + r.val) = 256 * (t.val % 33) + (place (dirOf t).val r).val := by
  have hr := r.isLt
  have ht := (blk_lt t).1
  show posAt (t.val / 264) _ = 256 * (t.val % 33) + (place (t.val / 264) r).val
  have hs : t.val % 33 < 33 := by omega
  generalize t.val % 33 = s at hs ⊢
  obtain hd | hd : t.val / 264 = 0 ∨ t.val / 264 = 1 := by omega
  · rw [hd]
    have : (place 0 r).val = r.val := rfl
    rw [this]; unfold posAt blkAt; split_ifs <;> omega
  · rw [hd]
    have : (place 1 r).val = 255 - r.val := by show (Fin.rev r).val = _; rw [Fin.val_rev]; omega
    rw [this]; unfold posAt blkAt; rw [if_neg one_ne_zero, if_neg one_ne_zero]; split <;> omega

/-- The result array after the run. -/
theorem final : (dats m 0 c).arrAt 5 (cfgs 0).N = scanArray (A0 m c) (A1 m c) (A2 m c) := by
  refine (dats m 0 c).arrAt_eq_of_covers 5 _ (by decide +kernel) fun t _ y => ?_
  blk_simp
  rw [after0_5]
  idx_vars y
  refine ((left_all m c h0 h1 h2 t.val t.isLt).out _ _ _).trans ?_
  have hb := (blk_lt t)
  unfold scanArray
  refine congrArg (fun x : ℝ => (x : EReal)) ?_
  have i0 : ((((cfg0.win 5).blk t).view.emb (ix3 y0 y1 y2)) 0).val = t.val / 264 := by blk_simp [idx t]
  have i1 : ((((cfg0.win 5).blk t).view.emb (ix3 y0 y1 y2)) 1).val = blkAt (t.val / 264) (t.val % 33) * 256 + y1.val := by blk_simp [idx t]
  have i2 : ((((cfg0.win 5).blk t).view.emb (ix3 y0 y1 y2)) 2).val = t.val / 33 % 8 * 256 + y2.val := by blk_simp [idx t]
  refine result_congr _ _ _ (Fin.ext i0.symm) (Fin.ext ?_) ?_ (Fin.ext ?_)
  · show t.val / 33 % 8 = _ / 256
    rw [i2]; have := y2.isLt; omega
  · rw [i0, i1]; exact (posAt_blk t y1).symm
  · show y2.val = _ % 256
    rw [i2]; have := y2.isLt; omega

end Cert.Mlstm

end
-- ==== Proof.Finite.lean ====
/-
  The precondition read back: every element of the arguments is a real number.
-/
module

public import proofs.«01_k».proof.Proof.State
public import proofs.«01_k».proof.Proof.Gen.Pre_finite
public import Idealize.ShloMosaic.Lib.ReduceAll
public import Idealize.ShloMosaic.Lib.Pointwise

@[expose] public section

set_option maxRecDepth 16384

noncomputable section

namespace Cert.Mlstm

open Idealize.ShloMosaic Idealize.ShloMosaic.TcCoe Idealize.SL.Sem

/-- A number whose absolute value is below the infinity is real. -/
theorem real_of_lt (a : EReal) (h : BitVec.ofBool (decide (max a (-a) < (⊤ : EReal))) = 1#1) : a = ((a.toReal : ℝ) : EReal) := by
  have h' : max a (-a) < (⊤ : EReal) := by
    by_contra hn
    rw [decide_eq_false hn] at h
    exact absurd h (by decide)
  refine (EReal.coe_toReal ?_ ?_).symm
  · rintro rfl; simp at h'
  · rintro rfl; simp at h'

instance : Subsingleton Cert.Pre_finite.S_.Idx := ⟨fun a b => funext fun i => i.elim0⟩

/-- The precondition says that every element of the three arguments is a real number. -/
theorem finite_real (x0 : FVec Ideal Cert.KernelIdeal.S8448x2048 .bf16) (x1 : FVec Ideal Cert.KernelIdeal.S8448x16896 .f32)
    (x2 : FVec Ideal Cert.KernelIdeal.S2x8x2x8448 .f32) (h : Cert.Pre_finite.fn (F := Ideal) x0 x1 x2 = fun _ => 1#1) :
    Real' x0 ∧ Real' x1 ∧ Real' x2 := by
  have e := congrFun h (fun i => i.elim0)
  dsimp only [Cert.Pre_finite.fn] at e
  obtain ⟨e01, e2⟩ := IntOp.andi_eq_one.1 e
  obtain ⟨e0, e1⟩ := IntOp.andi_eq_one.1 e01
  refine ⟨fun j => ?_, fun j => ?_, fun j => ?_⟩
  · have := Host.reduce_andi_all _ _ _ _ _ e0 j
    exact real_of_lt _ this
  · have := Host.reduce_andi_all _ _ _ _ _ e1 j
    exact real_of_lt _ this
  · have := Host.reduce_andi_all _ _ _ _ _ e2 j
    exact real_of_lt _ this

end Cert.Mlstm

end
-- ==== Proof.CumSum.lean ====
/-
  A running sum along the last axis of a three-axis array, as the host takes it: a window of the whole axis, padded in
  front by one less than its length.
-/
module

public import proofs.«01_k».proof.Proof.Scan
public import Idealize.ShloMosaic.Lib.Pointwise

@[expose] public section

noncomputable section

namespace Cert.Mlstm

open Idealize.ShloMosaic

/-- A left fold of additions over an enumeration is a sum. -/
theorem foldl_add_finRange (K : ℕ) (g : Fin K → EReal) (z : EReal) : (List.finRange K).foldl (fun r n => r + g n) z = z + ∑ n, g n := by
  rw [← List.sum_ofFn, List.ofFn_eq_map]
  generalize List.finRange K = l
  induction l generalizing z with
  | nil => simp
  | cons a l ih => rw [List.foldl_cons, ih, List.map_cons, List.sum_cons, add_assoc]

/-- Entry `t` of the running sum holds the sum of the entries up to `t`. -/
theorem cumsum_at {A B N L : ℕ} (hN : L + 1 = N) (x : FVec Ideal ⟨3, ![A, B, N]⟩ .f32) (init : FVec Ideal ⟨0, ![]⟩ .f32)
    (h : (⟨3, ![A, B, N]⟩ : Shape).ReduceWindows (![1, 1, N] : Fin 3 → ℕ) ![1, 1, 1] ![0, 0, L] ![0, 0, 0] ⟨3, ![A, B, N]⟩)
    (hu : 0 < (⟨0, ![]⟩ : Shape).numel) (hz : (init (Shape.Idx.first hu) : EReal) = 0) (a : Fin A) (b : Fin B) (t : Fin N)
    (g : ℕ → EReal) (hg : ∀ s : Fin N, (x (ix3 a b s) : EReal) = g s.val) :
    (Host.reduceWindowAdd (F := Ideal) (φ := .f32) ![1, 1, N] ![1, 1, 1] ![0, 0, L] ![0, 0, 0] x init h hu (ix3 a b t) : EReal)
      = ∑ s ∈ Finset.range (t.val + 1), g s := by
  show Ideal.hostReduceWindowAdd _ _ _ _ h x (init (Shape.Idx.first hu)) (ix3 a b t) = _
  unfold Ideal.hostReduceWindowAdd Host.reduceWindow
  rw [hz]
  refine (foldl_add_finRange _ _ _).trans ?_
  rw [zero_add]
  have key : ∀ (w : (⟨3, ![1, 1, N]⟩ : Shape).Idx) (dec : Decidable (∀ b' : Fin 3, (![0, 0, L] : Fin 3 → ℕ) b' ≤ (ix3 a b t b').val * (![1, 1, 1] : Fin 3 → ℕ) b' + (w b').val
          ∧ (ix3 a b t b').val * (![1, 1, 1] : Fin 3 → ℕ) b' + (w b').val - (![0, 0, L] : Fin 3 → ℕ) b' < (![A, B, N] : Fin 3 → ℕ) b')),
      @dite EReal _ dec
        (fun hin => x (fun b' => ⟨(ix3 a b t b').val * (![1, 1, 1] : Fin 3 → ℕ) b' + (w b').val - (![0, 0, L] : Fin 3 → ℕ) b', (hin b').2⟩)) (fun _ => 0)
      = if L ≤ t.val + (w 2).val then g (t.val + (w 2).val - L) else 0 := by
    intro w _
    have w0 : (w 0).val < 1 := (w 0).isLt
    have w1 : (w 1).val < 1 := (w 1).isLt
    have w2 : (w 2).val < N := (w 2).isLt
    have ha := a.isLt
    have hb := b.isLt
    have ht := t.isLt
    split
    · next hin =>
      have h2 := (hin 2).1
      change L ≤ t.val * 1 + (w 2).val at h2
      rw [if_pos (by omega), ← hg ⟨t.val + (w 2).val - L, by omega⟩]
      refine congrArg x (funext fun b' => Fin.ext ?_)
      match b' with
      | ⟨0, _⟩ => show a.val * 1 + (w 0).val - 0 = a.val; omega
      | ⟨1, _⟩ => show b.val * 1 + (w 1).val - 0 = b.val; omega
      | ⟨2, _⟩ => show t.val * 1 + (w 2).val - L = t.val + (w 2).val - L; omega
    · next hin =>
      refine (if_neg fun hle => hin fun b' => ?_).symm
      match b' with
      | ⟨0, _⟩ => show 0 ≤ a.val * 1 + (w 0).val ∧ a.val * 1 + (w 0).val - 0 < A; omega
      | ⟨1, _⟩ => show 0 ≤ b.val * 1 + (w 1).val ∧ b.val * 1 + (w 1).val - 0 < B; omega
      | ⟨2, _⟩ => show L ≤ t.val * 1 + (w 2).val ∧ t.val * 1 + (w 2).val - L < N; omega
  refine (Finset.sum_congr (g := fun n => if L ≤ t.val + ((⟨3, ![1, 1, N]⟩ : Shape).rowMajor.symm n 2).val
    then g (t.val + ((⟨3, ![1, 1, N]⟩ : Shape).rowMajor.symm n 2).val - L) else 0) rfl fun n _ => ?_).trans ?_
  · exact key ((⟨3, ![1, 1, N]⟩ : Shape).rowMajor.symm n) _
  rw [Equiv.sum_comp (⟨3, ![1, 1, N]⟩ : Shape).rowMajor.symm (fun w => if L ≤ t.val + (w 2).val then g (t.val + (w 2).val - L) else 0), sum_idx3]
  rw [Fin.sum_univ_one, Fin.sum_univ_one]
  show (∑ c : Fin N, if L ≤ t.val + c.val then g (t.val + c.val - L) else 0) = _
  rw [Fin.sum_univ_eq_sum_range (fun c => if L ≤ t.val + c then g (t.val + c - L) else 0) N, ← Finset.sum_filter]
  have ht := t.isLt
  refine Finset.sum_nbij' (fun c => t.val + c - L) (fun s => s + L - t.val) ?_ ?_ ?_ ?_ ?_
  · intro c hc; rw [Finset.mem_filter, Finset.mem_range] at hc; rw [Finset.mem_range]; omega
  · intro s hs; rw [Finset.mem_range] at hs; rw [Finset.mem_filter, Finset.mem_range]; omega
  · intro c hc; rw [Finset.mem_filter, Finset.mem_range] at hc; omega
  · intro s hs; rw [Finset.mem_range] at hs; omega
  · intro c _; rfl

end Cert.Mlstm
end
-- ==== Proof.Reference.lean ====
/-
  The reference's result in terms of the real recurrence.
-/
module

public import proofs.«01_k».proof.Proof.State
public import proofs.«01_k».proof.Proof.CumSum
public import proofs.«01_k».proof.Proof.Gen.ReferenceIdeal.Read

@[expose] public section

set_option maxRecDepth 16384

noncomputable section

namespace Cert.Mlstm

open Idealize.ShloMosaic Idealize.ShloMosaic.TcCoe Idealize.SL.Sem Cert.ReferenceIdeal.Read

variable (x0 : FVec Ideal Cert.KernelIdeal.S8448x2048 .bf16) (x1 : FVec Ideal Cert.KernelIdeal.S8448x16896 .f32) (x2 : FVec Ideal Cert.KernelIdeal.S2x8x2x8448 .f32)

/-- The forward direction reads the context's rows first. -/
theorem rowF_ctx (p : Fin 8448) (h : p.val < 256) : rowF ((0 : Fin 2) : ℕ) p.val = ⟨8192 + p.val, by omega⟩ := by
  apply Fin.ext
  show (if (0 : ℕ) = 0 then (if p.val < 256 then 8192 + p.val else p.val - 256) else 8447 - p.val) % 8448 = 8192 + p.val
  rw [if_pos rfl, if_pos h]; omega

/-- The latent rows follow. -/
theorem rowF_lat (p : Fin 8448) (h : ¬p.val < 256) : rowF ((0 : Fin 2) : ℕ) p.val = ⟨p.val - 256, by omega⟩ := by
  apply Fin.ext
  show (if (0 : ℕ) = 0 then (if p.val < 256 then 8192 + p.val else p.val - 256) else 8447 - p.val) % 8448 = p.val - 256
  rw [if_pos rfl, if_neg h]; omega

/-- The backward direction reads the rows from the last to the first. -/
theorem rowF_back (p : Fin 8448) : rowF ((1 : Fin 2) : ℕ) p.val = p.rev := by
  apply Fin.ext
  rw [Fin.val_rev]
  show (8447 - p.val) % 8448 = _
  omega

/-- The queries, in reading order. -/
theorem ref_q (d : Fin 2) (h : Fin 8) (p : Fin 8448) (a : Fin 128) :
    val_main_v10 (F := Ideal) x0 (ix4 d h p a) = x0 (ix2 (rowF d.val p.val) ⟨h.val * 128 + a.val, by omega⟩) := by
  pointwise [val_main_v10, val_main_v9, val_main_v8, val_main_v7, val_main_v6, val_main_v5, val_main_v4, val_main_v3, val_main_v2, val_main_v1, val_main_v0]
  obtain rfl | rfl : d = 0 ∨ d = 1 := by omega
  · rw [dif_pos (by decide)]
    split
    · rw [rowF_ctx _ ‹_›]
    · rw [rowF_lat _ ‹_›]
  · rw [dif_neg (by decide), rowF_back]
    simp

/-- The keys, in reading order. -/
theorem ref_k (d : Fin 2) (h : Fin 8) (p : Fin 8448) (a : Fin 128) :
    val_main_v21 (F := Ideal) x0 (ix4 d h p a) = x0 (ix2 (rowF d.val p.val) ⟨1024 + h.val * 128 + a.val, by omega⟩) := by
  pointwise [val_main_v21, val_main_v20, val_main_v19, val_main_v18, val_main_v17, val_main_v16, val_main_v15, val_main_v14, val_main_v13, val_main_v12, val_main_v11]
  obtain rfl | rfl : d = 0 ∨ d = 1 := by omega
  · rw [dif_pos (by decide)]
    split
    · rw [rowF_ctx _ ‹_›]; simp only [add_assoc]
    · rw [rowF_lat _ ‹_›]; simp only [add_assoc]
  · rw [dif_neg (by decide), rowF_back]
    simp [add_assoc]

/-- The values, in reading order. -/
theorem ref_v (d : Fin 2) (h : Fin 8) (p : Fin 8448) (e : Fin 256) :
    val_main_v31 (F := Ideal) x1 (ix4 d h p e) = x1 (ix2 (rowF d.val p.val) ⟨2048 + h.val * 256 + e.val, by omega⟩) := by
  pointwise [val_main_v31, val_main_v30, val_main_v29, val_main_v28, val_main_v27, val_main_v26, val_main_v25, val_main_v24, val_main_v23, val_main_v22]
  obtain rfl | rfl : d = 0 ∨ d = 1 := by omega
  · rw [dif_pos (by decide)]
    split
    · rw [rowF_ctx _ ‹_›]; simp only [add_assoc]
    · rw [rowF_lat _ ‹_›]; simp only [add_assoc]
  · rw [dif_neg (by decide), rowF_back]
    simp [add_assoc]

/-- The gates, in reading order. -/
theorem ref_g (d : Fin 2) (h : Fin 8) (w : Fin 2) (p : Fin 8448) :
    val_main_v42 (F := Ideal) x2 (ix4 d h w p) = x2 (ix4 d h w (rowF d.val p.val)) := by
  pointwise [val_main_v42, val_main_v41, val_main_v40, val_main_v39, val_main_v38, val_main_v37, val_main_v36, val_main_v35, val_main_v34, val_main_v33, val_main_v32]
  obtain rfl | rfl : d = 0 ∨ d = 1 := by omega
  · rw [dif_pos (by decide)]
    split
    · rw [rowF_ctx _ ‹_›]
    · rw [rowF_lat _ ‹_›]
  · rw [dif_neg (by decide), rowF_back]
    simp

variable (h0 : Real' x0) (h1 : Real' x1) (h2 : Real' x2)

include h2 in
/-- The log input gates, in reading order. -/
theorem ref_i (d : Fin 2) (h : Fin 8) (s : Fin 8448) :
    (val_main_v44 (F := Ideal) x2 (ix3 d h s) : EReal) = ((gOf x2 0 d h s.val : ℝ) : EReal) := by
  pointwise [val_main_v44, val_main_v43]
  rw [ref_g, h2]; rfl

include h2 in
/-- The log forget gates, in reading order. -/
theorem ref_f (d : Fin 2) (h : Fin 8) (s : Fin 8448) :
    (val_main_v46 (F := Ideal) x2 (ix3 d h s) : EReal) = ((gOf x2 1 d h s.val : ℝ) : EReal) := by
  pointwise [val_main_v46, val_main_v45]
  rw [ref_g, h2]; rfl

include h2 in
/-- The running sums of the log forget gates. -/
theorem ref_cum (d : Fin 2) (h : Fin 8) (p : Fin 8448) :
    (val_main_v47 (F := Ideal) x2 (ix3 d h p) : EReal) = ((cum (gOf x2 1 d h) (p.val + 1) : ℝ) : EReal) := by
  refine (cumsum_at (by norm_num) _ _ _ _ ?_ d h p (fun s => ((gOf x2 1 d h s : ℝ) : EReal)) fun s => ref_f x2 h2 d h s).trans (coe_sum _ _)
  exact Ideal.ofBits_zero .f32

include h2 in
/-- The masked log weights. -/
theorem ref_D (d : Fin 2) (h : Fin 8) (p s : Fin 8448) :
    (val_main_v59 (F := Ideal) x2 (ix4 d h p s) : EReal)
      = if s ≤ p then ((logw (gOf x2 1 d h) (gOf x2 0 d h) (p.val + 1) s.val : ℝ) : EReal) else ⊥ := by
  pointwise [val_main_v59, val_main_v58, val_main_v57, val_main_v56, val_main_v55, val_main_v54, val_main_v53, val_main_v52, val_main_v51, val_main_v50, val_main_v49, val_main_v48]
  rw [ref_cum x2 h2, ref_cum x2 h2, ref_i x2 h2, ← EReal.coe_sub, ← EReal.coe_add]
  have hw : IntOp.cmpi .sle (BitVec.ofNat 32 s.val) (BitVec.ofNat 32 p.val) = if s ≤ p then 1#1 else 0#1 := by
    word_cmp
    by_cases hsp : s ≤ p
    · rw [if_pos hsp, decide_eq_true (show s.val ≤ p.val from hsp)]; rfl
    · rw [if_neg hsp, decide_eq_false (show ¬s.val ≤ p.val from hsp)]; rfl
  rw [hw]
  split
  · rfl
  · rfl

include h2 in
/-- The stabilisers. -/
theorem ref_m (d : Fin 2) (h : Fin 8) (p : Fin 8448) :
    (val_main_v60 (F := Ideal) x2 (ix3 d h p) : EReal) = top (gOf x2 1 d h) (gOf x2 0 d h) (p.val + 1) := by
  pointwise [val_main_v60]
  simp only [ref_D x2 h2]
  exact sup_upto (Equiv.refl (Fin 8448)) p fun s => ((logw (gOf x2 1 d h) (gOf x2 0 d h) (p.val + 1) s : ℝ) : EReal)

include h0 in
/-- Queries against keys. -/
theorem ref_dot (d : Fin 2) (h : Fin 8) (p s : Fin 8448) :
    (val_main_v65 (F := Ideal) x0 (ix4 d h p s) : EReal) = ((dot (qOf x0 d.val h) (kOf x0 d.val h) p.val s.val : ℝ) : EReal) := by
  pointwise [val_main_v65]
  simp only [ref_q, ref_k]
  unfold dot
  rw [← coe_sum]
  refine Finset.sum_congr rfl fun a _ => ?_
  rw [h0 (ix2 (rowF d.val p.val) ⟨h.val * 128 + a.val, by omega⟩), h0 (ix2 (rowF d.val s.val) ⟨1024 + h.val * 128 + a.val, by omega⟩), ← EReal.coe_mul]; rfl

include h0 h2 in
/-- The weighted products. -/
theorem ref_s (d : Fin 2) (h : Fin 8) (p s : Fin 8448) :
    (val_main_v66 (F := Ideal) x0 x2 (ix4 d h p s) : EReal)
      = ((if s ≤ p then wgt (gOf x2 1 d h) (gOf x2 0 d h) (p.val + 1) s.val * dot (qOf x0 d.val h) (kOf x0 d.val h) p.val s.val else 0 : ℝ) : EReal) := by
  pointwise [val_main_v66, val_main_v64, val_main_v63, val_main_v62, val_main_v61]
  rw [ref_D x2 h2, ref_m x2 h2, ref_dot x0 h0]
  split
  · rw [exp_wgt _ _ _ _ (Nat.succ_pos _), ← EReal.coe_mul, mul_comm]
  · rw [exp_bot_sub, ← EReal.coe_mul, mul_zero]

include h0 h1 h2 in
/-- The numerators. -/
theorem ref_num (d : Fin 2) (h : Fin 8) (p : Fin 8448) (e : Fin 256) :
    (val_main_v67 (F := Ideal) x0 x1 x2 (ix4 d h p e) : EReal)
      = ((numer (gOf x2 1 d h) (gOf x2 0 d h) (qOf x0 d.val h) (kOf x0 d.val h) (vOf x1 d.val h) p.val e : ℝ) : EReal) := by
  pointwise [val_main_v67]
  simp only [ref_s x0 x2 h0 h2, ref_v]
  unfold numer
  rw [← sum_upto (Equiv.refl (Fin 8448)) p fun s => wgt (gOf x2 1 d h) (gOf x2 0 d h) (p.val + 1) s * (dot (qOf x0 d.val h) (kOf x0 d.val h) p.val s * vOf x1 d.val h s e), ← coe_sum]
  refine Finset.sum_congr rfl fun s _ => ?_
  rw [h1 (ix2 (rowF d.val s.val) ⟨2048 + h.val * 256 + e.val, by omega⟩), ← EReal.coe_mul]
  congr 1
  show _ = if s ≤ p then _ else _
  split
  · rw [mul_assoc]; rfl
  · rw [zero_mul]

include h0 h2 in
/-- The signed denominators. -/
theorem ref_den (d : Fin 2) (h : Fin 8) (p : Fin 8448) :
    (val_main_v68 (F := Ideal) x0 x2 (ix3 d h p) : EReal)
      = ((denom (gOf x2 1 d h) (gOf x2 0 d h) (qOf x0 d.val h) (kOf x0 d.val h) p.val : ℝ) : EReal) := by
  pointwise [val_main_v68]
  simp only [ref_s x0 x2 h0 h2, coe_sum]
  rw [show val_main_cst_1 (F := Ideal) (Shape.Idx.first Cert.ReferenceIdeal.Gen.h_S_) = (0 : EReal) from Ideal.ofBits_zero .f32, zero_add]
  congr 1
  exact sum_upto (Equiv.refl (Fin 8448)) p fun s => wgt (gOf x2 1 d h) (gOf x2 0 d h) (p.val + 1) s * dot (qOf x0 d.val h) (kOf x0 d.val h) p.val s

end Cert.Mlstm

end
-- ==== Proof.RefOut.lean ====
/-
  The reference's result array, back in the arrays' order.
-/
module

public import proofs.«01_k».proof.Proof.Reference

@[expose] public section

set_option maxRecDepth 16384

noncomputable section

namespace Cert.Mlstm

open Idealize.ShloMosaic Idealize.ShloMosaic.TcCoe Idealize.SL.Sem Cert.ReferenceIdeal.Read

variable (x0 : FVec Ideal Cert.KernelIdeal.S8448x2048 .bf16) (x1 : FVec Ideal Cert.KernelIdeal.S8448x16896 .f32) (x2 : FVec Ideal Cert.KernelIdeal.S2x8x2x8448 .f32)

variable (h0 : Real' x0) (h1 : Real' x1) (h2 : Real' x2)

include h0 h2 in
/-- The denominators. -/
theorem ref_div (d : Fin 2) (h : Fin 8) (p : Fin 8448) :
    (val_main_v72 (F := Ideal) x0 x2 (ix3 d h p) : EReal)
      = ((max |denom (gOf x2 1 d h) (gOf x2 0 d h) (qOf x0 d.val h) (kOf x0 d.val h) p.val|
          (Real.exp (-(top (gOf x2 1 d h) (gOf x2 0 d h) (p.val + 1)).toReal)) : ℝ) : EReal) := by
  have hd := ref_den x0 x2 h0 h2 d h p
  have hm := ref_m x2 h2 d h p
  rw [val_main_v72_apply, val_main_v69_apply, val_main_v71_apply, val_main_v70_apply]
  generalize val_main_v68 (F := Ideal) x0 x2 (ix3 d h p) = a at hd ⊢
  generalize val_main_v60 (F := Ideal) x2 (ix3 d h p) = b at hm ⊢
  subst hd hm
  show max (FloatOps.absf (F := Ideal) (φ := .f32) _ : EReal) (Ideal.exp (-top _ _ _)) = _
  rw [exp_neg_top _ _ _ (Nat.succ_pos _), absf_coe, coe_max]

/-- The denominators, along the columns. -/
theorem ref_divs (d : Fin 2) (h : Fin 8) (p : Fin 8448) (e : Fin 256) :
    val_main_v74 (F := Ideal) x0 x2 (ix4 d h p e) = val_main_v72 (F := Ideal) x0 x2 (ix3 d h p) := by
  pointwise [val_main_v74, val_main_v73]

include h0 h1 h2 in
/-- The scan's results, in reading order. -/
theorem ref_h (d : Fin 2) (h : Fin 8) (p : Fin 8448) (e : Fin 256) :
    (val_main_v75 (F := Ideal) x0 x1 x2 (ix4 d h p e) : EReal) = ((result x0 x1 x2 d h p.val e : ℝ) : EReal) := by
  pointwise [val_main_v75]
  rw [ref_divs, ref_num x0 x1 x2 h0 h1 h2, ref_div x0 x2 h0 h2, div_pos_coe _ _ (lt_max_of_lt_right (Real.exp_pos _))]
  rfl

include h0 h1 h2 in
/-- The results of one direction side by side, in reading order. -/
theorem ref_rows (d : Fin 2) (p : Fin 8448) (j : Fin 2048) :
    (val_main_v77 (F := Ideal) x0 x1 x2 (ix3 d p j) : EReal)
      = ((result x0 x1 x2 d ⟨j.val / 256, by omega⟩ p.val ⟨j.val % 256, by omega⟩ : ℝ) : EReal) := by
  pointwise [val_main_v77, val_main_v76]
  exact ref_h x0 x1 x2 h0 h1 h2 _ _ _ _

/-- The forward direction's results as rows. -/
theorem ref_row0 (R : Fin 8448) (j : Fin 2048) :
    val_main_v79 (F := Ideal) x0 x1 x2 (ix2 R j) = val_main_v77 (F := Ideal) x0 x1 x2 (ix3 0 R j) := by
  pointwise [val_main_v79, val_main_v78]

/-- The latent rows. -/
theorem ref_fwd_lat (R : Fin 8192) (j : Fin 2048) :
    val_main_v81 (F := Ideal) x0 x1 x2 (ix2 R j) = val_main_v77 (F := Ideal) x0 x1 x2 (ix3 0 ⟨256 + R.val, by omega⟩ j) := by
  pointwise [val_main_v81]
  rw [ref_row0]

/-- The context's rows. -/
theorem ref_fwd_ctx (R : Fin 256) (j : Fin 2048) :
    val_main_v80 (F := Ideal) x0 x1 x2 (ix2 R j) = val_main_v77 (F := Ideal) x0 x1 x2 (ix3 0 ⟨R.val, by omega⟩ j) := by
  pointwise [val_main_v80]
  rw [ref_row0]

/-- Positions of the same number give the same value. -/
theorem row_congr (d : Fin 2) {p p' : Fin 8448} (j : Fin 2048) (h : p.val = p'.val) :
    val_main_v77 (F := Ideal) x0 x1 x2 (ix3 d p j) = val_main_v77 (F := Ideal) x0 x1 x2 (ix3 d p' j) := by
  obtain rfl : p = p' := Fin.ext h
  rfl

/-- The forward direction's results, back in the arrays' order. -/
theorem ref_fwd (R : Fin 8448) (j : Fin 2048) :
    val_main_v82 (F := Ideal) x0 x1 x2 (ix2 R j) = val_main_v77 (F := Ideal) x0 x1 x2 (ix3 0 (Fin.ofNat 8448 (posAt 0 R.val)) j) := by
  have hp : (Fin.ofNat 8448 (posAt 0 R.val)).val = if R.val < 8192 then R.val + 256 else R.val - 8192 := by
    show posAt 0 R.val % 8448 = _
    have hR := R.isLt
    unfold posAt
    rw [if_pos rfl]
    split <;> omega
  pointwise [val_main_v82]
  split
  · next h => rw [if_pos h] at hp; rw [ref_fwd_lat]; refine row_congr x0 x1 x2 0 j ?_; rw [hp]; exact Nat.add_comm 256 R.val
  · next h => rw [if_neg h] at hp; rw [ref_fwd_ctx]; refine row_congr x0 x1 x2 0 j ?_; rw [hp]

/-- The backward direction's results, back in the arrays' order. -/
theorem ref_bwd (R : Fin 8448) (j : Fin 2048) :
    val_main_v85 (F := Ideal) x0 x1 x2 (ix2 R j) = val_main_v77 (F := Ideal) x0 x1 x2 (ix3 1 R.rev j) := by
  pointwise [val_main_v85, val_main_v84, val_main_v83]
  rfl

include h0 h1 h2 in
/-- The reference's result. -/
theorem ref_out : val_main_v88 (F := Ideal) x0 x1 x2 = scanArray x0 x1 x2 := by
  funext j
  idx_vars j
  pointwise [val_main_v88, val_main_v87, val_main_v86]
  show _ = ((result x0 x1 x2 j0 ⟨j2.val / 256, _⟩ (posAt j0.val j1.val) ⟨j2.val % 256, _⟩ : ℝ) : EReal)
  obtain rfl | rfl : j0 = 0 ∨ j0 = 1 := by omega
  · rw [dif_pos (by decide), ref_fwd, ref_rows x0 x1 x2 h0 h1 h2]
    congr 2
    show posAt 0 j1.val % 8448 = posAt 0 j1.val
    have hj := j1.isLt
    unfold posAt
    rw [if_pos rfl]
    split <;> omega
  · rw [dif_neg (by decide), ref_bwd, ref_rows x0 x1 x2 h0 h1 h2]
    congr 2
    rw [Fin.val_rev]
    show 8448 - (j1.val + 1) = 8447 - j1.val
    omega

end Cert.Mlstm

end
-- ==== Proof.InRun.lean ====
/-
  The two launches of the mixer's inputs run in turn, and the result is what the second one leaves.
-/
module

public import proofs.«01_k».proof.Proof.Gen.InKernelIdeal.Frame

@[expose] public section

set_option maxRecDepth 16384

noncomputable section

namespace Cert.In

open Idealize.ShloMosaic Idealize.ShloMosaic.TcCoe Cert.InKernelIdeal Cert.InKernelIdeal.Gen
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every buffer ends at the contents behind the second launch. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The result is the second launch's output array, and the arguments are as launched. -/
theorem run : θ_run defs (onTc (τ := τ) (main (F := F))) ⟨m, fun _ => 0, ρ⟩ (fun r => ∀ c : Dev nD,
    r.2.mem ((c.tc : Thread nD τ).loc main_v14) = (dat1 (V3 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c =>
    ⟨(h c _ (mem_uc main_v14 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.In

end
-- ==== Proof.Norm.lean ====
/-
  The root-mean-square norm of a row, as the kernels and the references both write it.
-/
module

public import Idealize.ShloMosaic.PureOps.Ideal
public import Idealize.ShloMosaic.Lib.Pointwise

@[expose] public section

noncomputable section

namespace Cert.Norm

open Idealize.ShloMosaic

/-- Entry `n` of the row `f` divided by the root of the row's mean square. -/
def normed (f : Fin 2048 → EReal) (n : Fin 2048) : EReal :=
  f n * Ideal.rsqrt (Ideal.div (∑ k, f k * f k) (Ideal.ofBits .f32 0x45000000#32) + Ideal.ofBits .f32 0x358637BD#32)

/-- The norm with the gain `g`, the scale `s` and the shift `b` at entry `n`. -/
def modulated (f : Fin 2048 → EReal) (n : Fin 2048) (g s b : EReal) : EReal :=
  normed f n * g * (1 + s) + b

end Cert.Norm

end
-- ==== Proof.InRef.lean ====
/-
  The mixer's inputs in the reference: the modulated norms of the latent and the context rows, and their product with
  the rearranged columns of the weights.
-/
module

public import proofs.«01_k».proof.Proof.Gen.InReferenceIdeal.Read
public import proofs.«01_k».proof.Proof.Norm
public import Idealize.ShloMosaic.Lib.Pointwise

@[expose] public section

set_option maxRecDepth 16384

noncomputable section

namespace Cert.In

open Idealize.ShloMosaic Cert.InReferenceIdeal Cert.InReferenceIdeal.Read Cert.Norm

section

variable (x0 : FVec Ideal S8192x2048 .f32) (x1 : FVec Ideal S256x2048 .f32) (x2 : FVec Ideal S2x6x2048 .f32)
  (x3 : FVec Ideal S2048 .f32) (x4 : FVec Ideal S2048x16416 .f32)

/-- Row `r` of the rows under their norms: a latent row, or behind those a row of the context. -/
def rowNorm (r : Fin 8448) (k : Fin 2048) : EReal :=
  if h : r.val < 8192 then modulated (fun j => x0 (ix2 ⟨r.val, h⟩ j)) k (x3 (ix1 k)) (x2 (ix3 0 1 k)) (x2 (ix3 0 0 k))
  else modulated (fun j => x1 (ix2 ⟨r.val - 8192, by omega⟩ j)) k (x3 (ix1 k)) (x2 (ix3 1 1 k)) (x2 (ix3 1 0 k))

/-- Column `n` of the rearranged weights: the gates' columns behind the others, and then nothing. -/
def colW (k : Fin 2048) (n : Fin 16896) : EReal :=
  if h : n.val < 6144 then x4 (ix2 k ⟨n.val, by omega⟩)
  else if h : n.val < 16384 then x4 (ix2 k ⟨n.val + 32, by omega⟩)
  else if h : n.val < 16416 then x4 (ix2 k ⟨n.val - 10240, by omega⟩)
  else 0

/-- Columns of the same number have the same entries. -/
theorem entry_congr (k : Fin 2048) (p q : Fin 16416) (h : p.val = q.val) : x4 (ix2 k p) = x4 (ix2 k q) := by
  rw [Fin.ext h]

/-- A column of the weights is the rearranged one it goes to. -/
theorem col_eq (k : Fin 2048) (n : Fin 16896) (p : Fin 16416)
    (h : n.val < 6144 ∧ p.val = n.val ∨ (6144 ≤ n.val ∧ n.val < 16384) ∧ p.val = n.val + 32
      ∨ (16384 ≤ n.val ∧ n.val < 16416) ∧ p.val = n.val - 10240) : x4 (ix2 k p) = colW x4 k n := by
  unfold colW
  obtain ⟨h0, h2⟩ | ⟨⟨h0, h1⟩, h2⟩ | ⟨⟨h0, h1⟩, h2⟩ := h
  · rw [dif_pos h0]
    exact entry_congr x4 k _ _ h2
  · rw [dif_neg (by omega), dif_pos h1]
    exact entry_congr x4 k _ _ h2
  · rw [dif_neg (by omega), dif_neg (by omega), dif_pos h1]
    exact entry_congr x4 k _ _ h2

/-- Past the weights' columns the rearranged ones are nothing. -/
theorem col_zero (k : Fin 2048) (n : Fin 16896) (h : 16416 ≤ n.val) : colW x4 k n = 0 := by
  unfold colW
  rw [dif_neg (by omega), dif_neg (by omega), dif_neg (by omega)]

/-- The latent rows' norm at an index. -/
theorem ref_lat (r : Fin 8192) (k : Fin 2048) :
    val_main_v24 (F := Ideal) x0 x2 x3 (ix2 r k)
      = modulated (fun j => x0 (ix2 r j)) k (x3 (ix1 k)) (x2 (ix3 0 1 k)) (x2 (ix3 0 0 k)) := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, modulated, normed]
  rw [show (val_main_cst (F := Ideal) _ : EReal) = 0 from Ideal.ofBits_zero .f32, zero_add,
    show (val_main_cst_2 (F := Ideal) _ : EReal) = 1 from Ideal.ofBits_one_f32]
  rfl

/-- The context rows' norm at an index. -/
theorem ref_ctx (r : Fin 256) (k : Fin 2048) :
    val_main_v49 (F := Ideal) x1 x2 x3 (ix2 r k)
      = modulated (fun j => x1 (ix2 r j)) k (x3 (ix1 k)) (x2 (ix3 1 1 k)) (x2 (ix3 1 0 k)) := by
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29,
    val_main_v28, val_main_v27, val_main_v26, val_main_v25, modulated, normed]
  rw [show (val_main_cst_3 (F := Ideal) _ : EReal) = 0 from Ideal.ofBits_zero .f32, zero_add,
    show (val_main_cst_6 (F := Ideal) _ : EReal) = 1 from Ideal.ofBits_one_f32]
  rfl

/-- The product's rows at an index. -/
theorem ref_prod (r : Fin 8448) (n : Fin 16416) :
    val_main_v52 (F := Ideal) x0 x1 x2 x3 x4 (ix2 r n) = ∑ k, rowNorm x0 x1 x2 x3 r k * x4 (ix2 k n) := by
  pointwise [val_main_v52, val_main_v51, val_main_v50]
  unfold rowNorm
  split
  · exact Finset.sum_congr rfl fun k _ => congrArg (· * _) (ref_lat x0 x2 x3 _ k)
  · exact Finset.sum_congr rfl fun k _ => congrArg (· * _) (ref_ctx x1 x2 x3 _ k)

/-- The reference's result at an index. -/
theorem ref_at (r : Fin 8448) (n : Fin 16896) :
    val_main_v60 (F := Ideal) x0 x1 x2 x3 x4 (ix2 r n) = ∑ k, rowNorm x0 x1 x2 x3 r k * colW x4 k n := by
  pointwise [val_main_v60, val_main_v59, val_main_v58, val_main_v57, val_main_v56, val_main_v55, val_main_v54, val_main_v53]
  split_ifs
  rotate_right
  · refine (Ideal.ofBits_zero .f32).trans (Finset.sum_eq_zero fun k _ => ?_).symm
    rw [col_zero x4 k n (by omega), mul_zero]
  all_goals
    refine (ref_prod x0 x1 x2 x3 x4 _ _).trans (Finset.sum_congr rfl fun k _ => congrArg _ ?_)
    apply col_eq
    dsimp only
    omega

end

end Cert.In

end
-- ==== Proof.InCols.lean ====
/-
  The weights the second launch reads: the host cuts their columns apart and puts them together in another order.
-/
module

public import proofs.«01_k».proof.Proof.InRun
public import proofs.«01_k».proof.Proof.InRef

@[expose] public section

set_option maxRecDepth 16384

noncomputable section

namespace Cert.In

open Idealize.ShloMosaic Idealize.ShloMosaic.TcCoe Idealize.SL.Sem Cert.InKernelIdeal Cert.InKernelIdeal.Gen

/-- The host operations that cut the weights' columns apart. -/
abbrev cutOps : List (HloOp τ sig (Elt Ideal)) := hostOps1.take 5

/-- The host operations that put them together again. -/
abbrev joinOps : List (HloOp τ sig (Elt Ideal)) := hostOps1.drop 5

/-- The rearranged weights are the four pieces side by side. -/
theorem join_read (σ : Valuation τ sig (Elt Ideal)) :
    (StableHlo.after joinOps σ main_v13 : FVec Ideal S2048x16896 .bf16)
      = truncf (F := Ideal) .bf16 (concatenate S2048x16896 1 [⟨S2048x6144, (σ main_v8 : FVec Ideal S2048x6144 .f32)⟩,
          ⟨S2048x10240, (σ main_v9 : FVec Ideal S2048x10240 .f32)⟩, ⟨S2048x32, (σ main_v10 : FVec Ideal S2048x32 .f32)⟩,
          ⟨S2048x480, (σ main_v11 : FVec Ideal S2048x480 .f32)⟩] concatenates_S2048x6144_S2048x10240_S2048x32_S2048x480_S2048x16896_d1) bitsLt_bf16_f32 := by
  simp only [List.drop_succ_cons, List.drop_zero, StableHlo.after_cons, StableHlo.after_nil]
  rw [StableHlo.unary_result]
  rw [StableHlo.nary4_result]
  rfl

/-- The first piece of the weights. -/
theorem cut_lo (σ : Valuation τ sig (Elt Ideal)) : (StableHlo.after cutOps σ main_v8 : FVec Ideal S2048x6144 .f32)
    = extractStridedSlice S2048x6144 ![0, 0] (σ main_arg4 : FVec Ideal S2048x16416 .f32) slices_S2048x16416_S2048x6144_0_0 := by
  simp only [List.take_succ_cons, List.take_zero]
  after_results

/-- The piece of the weights behind the gates. -/
theorem cut_hi (σ : Valuation τ sig (Elt Ideal)) : (StableHlo.after cutOps σ main_v9 : FVec Ideal S2048x10240 .f32)
    = extractStridedSlice S2048x10240 ![0, 6176] (σ main_arg4 : FVec Ideal S2048x16416 .f32) slices_S2048x16416_S2048x10240_0_6176 := by
  simp only [List.take_succ_cons, List.take_zero]
  after_results

/-- The gates' piece of the weights. -/
theorem cut_gate (σ : Valuation τ sig (Elt Ideal)) : (StableHlo.after cutOps σ main_v10 : FVec Ideal S2048x32 .f32)
    = extractStridedSlice S2048x32 ![0, 6144] (σ main_arg4 : FVec Ideal S2048x16416 .f32) slices_S2048x16416_S2048x32_0_6144 := by
  simp only [List.take_succ_cons, List.take_zero]
  after_results

/-- The piece of zeros. -/
theorem cut_pad (σ : Valuation τ sig (Elt Ideal)) : (StableHlo.after cutOps σ main_v11 : FVec Ideal S2048x480 .f32)
    = broadcastInDim S2048x480 ![] bcast_S_S2048x480 (constant (F := Ideal) S_ .f32 0x00000000#32) := by
  simp only [List.take_succ_cons, List.take_zero]
  after_results

/-- A column put together from the four pieces. -/
theorem join_at (a : FVec Ideal S2048x6144 .f32) (b : FVec Ideal S2048x10240 .f32) (d : FVec Ideal S2048x32 .f32) (e : FVec Ideal S2048x480 .f32)
    (k : Fin 2048) (n : Fin 16896) :
    (truncf .bf16 (concatenate S2048x16896 1 [⟨S2048x6144, a⟩, ⟨S2048x10240, b⟩, ⟨S2048x32, d⟩, ⟨S2048x480, e⟩]
        concatenates_S2048x6144_S2048x10240_S2048x32_S2048x480_S2048x16896_d1) bitsLt_bf16_f32 : FVec Ideal S2048x16896 .bf16) (ix2 k n)
      = if h : n.val < 6144 then a (ix2 k ⟨n.val, h⟩) else if h1 : n.val - 6144 < 10240 then b (ix2 k ⟨n.val - 6144, h1⟩)
        else if h2 : n.val - 6144 - 10240 < 32 then d (ix2 k ⟨n.val - 6144 - 10240, h2⟩)
        else e (ix2 k ⟨n.val - 6144 - 10240 - 32, by omega⟩) := by
  pointwise

/-- The rearranged weights at an index, over any contents of the host's buffers. -/
theorem host_cols (σ : Valuation τ sig (Elt Ideal)) (k : Fin 2048) (n : Fin 16896) :
    (StableHlo.after hostOps1 σ main_v13 : FVec Ideal S2048x16896 .bf16) (ix2 k n)
      = colW (σ main_arg4 : FVec Ideal S2048x16416 .f32) k n := by
  have e : (StableHlo.after hostOps1 σ main_v13 : FVec Ideal S2048x16896 .bf16) = StableHlo.after joinOps (StableHlo.after cutOps σ) main_v13 := rfl
  rw [e, join_read, cut_lo, cut_hi, cut_gate, cut_pad]
  refine (join_at _ _ _ _ k n).trans ?_
  generalize (σ main_arg4 : FVec Ideal S2048x16416 .f32) = w
  split_ifs with h0 h1 h2
  · pointwise
    apply col_eq
    dsimp only
    omega
  · pointwise
    apply col_eq
    dsimp only
    omega
  · pointwise
    apply col_eq
    dsimp only
    omega
  · rw [col_zero w k n (by omega)]
    pointwise

end Cert.In

end
-- ==== Proof.In.lean ====
/-
  The mixer's inputs in the kernel: the first launch leaves the rows under their norms, the second multiplies them by
  the rearranged weights, and the result is the reference's.
-/
module

public import proofs.«01_k».proof.Proof.InRun
public import proofs.«01_k».proof.Proof.InCols
public import Idealize.ShloMosaic.Lib.Pipeline.ValueKit

@[expose] public section

set_option maxRecDepth 16384

noncomputable section

namespace Cert.In

open Idealize.ShloMosaic Idealize.ShloMosaic.TcCoe Idealize.SL.Sem Cert.InKernelIdeal Cert.InKernelIdeal.Gen
open Cert.InReferenceIdeal.Read Cert.Norm

variable (m : (ℓ : Loc nD τ sig) → Buf (Elt Ideal) ℓ) (ρ : Dev nD → PrngReg) (c : Dev nD)

/-- The latent rows. -/
abbrev X : FVec Ideal S8192x2048 .f32 := m ((c : Thread nD τ).loc main_arg0)
/-- The context's rows. -/
abbrev C : FVec Ideal S256x2048 .f32 := m ((c : Thread nD τ).loc main_arg1)
/-- The modulation. -/
abbrev M : FVec Ideal S2x6x2048 .f32 := m ((c : Thread nD τ).loc main_arg2)
/-- The norm's gain. -/
abbrev G : FVec Ideal S2048 .f32 := m ((c : Thread nD τ).loc main_arg3)
/-- The weights. -/
abbrev Wt : FVec Ideal S2048x16416 .f32 := m ((c : Thread nD τ).loc main_arg4)

/-- Which blocks a point of the first launch reads and writes. -/
theorem idx0 : ∀ t : Fin cfg0.N,
    win0_0.index t = ![min t.val 31, 0] ∧ win0_1.index t = ![0, 0] ∧ win0_2.index t = ![0, 0]
    ∧ win0_3.index t = ![t.val / 32, 0, 0] ∧ win0_4.index t = ![t.val / 32, 0, 0] ∧ win0_5.index t = ![t.val, 0] :=
  (by decide +kernel : ∀ t : Fin grid0.N, _)

/-- Which blocks a point of the second launch reads and writes. -/
theorem idx1 : ∀ t : Fin cfg1.N,
    win1_0.index t = ![t.val % 11, 0] ∧ win1_1.index t = ![0, t.val / 11] ∧ win1_2.index t = ![t.val % 11, t.val / 11] :=
  (by decide +kernel : ∀ t : Fin grid1.N, _)

section pay

variable (x : FVec Ideal S256x2048 .f32) (g : FVec Ideal S1x2048 .f32) (sc sh : FVec Ideal S1x1x2048 .f32)

/-- A latent block's norm at an index. -/
theorem pay_lat (r : Fin 256) (n : Fin 2048) :
    k0_pay1 (F := Ideal) x g sc sh (ix2 r n) = modulated (fun k => x (ix2 r k)) n (g (ix2 0 n)) (sc (ix3 0 0 n)) (sh (ix3 0 0 n)) := by
  pointwise [k0_pay1, modulated, normed]

/-- The context block's norm at an index. -/
theorem pay_ctx (r : Fin 256) (n : Fin 2048) :
    k0_pay2 (F := Ideal) x g sc sh (ix2 r n) = modulated (fun k => x (ix2 r k)) n (g (ix2 0 n)) (sc (ix3 0 0 n)) (sh (ix3 0 0 n)) := by
  pointwise [k0_pay2, modulated, normed]

/-- A block's product at an index. -/
theorem pay_prod (u : FVec Ideal S768x2048 .bf16) (w : FVec Ideal S2048x1536 .bf16) (r : Fin 768) (n : Fin 1536) :
    k1_pay1 (F := Ideal) u w (ix2 r n) = ∑ k : Fin 2048, u (ix2 r k) * w (ix2 k n) := by
  pointwise [k1_pay1]

end pay

/-- An entry of the latents' block is one of the array's. -/
theorem x_read (t : Fin cfg0.N) (r : Fin 256) (k : Fin 2048) (R : Fin 8192) (ht : t.val < 32) (hR : R.val = t.val * 256 + r.val) :
    (iblk0 (V1 m ρ) c 0 t : Vec Ideal S256x2048 .f32) (ix2 r k) = X m c (ix2 R k) := by
  have e : V1 m ρ c main_arg0 = X m c := W1_args m ρ c main_arg0 (by decide)
  blk_simp [iblk0, idx0 t]
  refine (congrFun e _).trans ?_
  blk_ext [idx0 t]

/-- An entry of the context's block is one of the array's. -/
theorem c_read (t : Fin cfg0.N) (r : Fin 256) (k : Fin 2048) :
    (iblk0 (V1 m ρ) c 1 t : Vec Ideal S256x2048 .f32) (ix2 r k) = C m c (ix2 r k) := by
  have e : V1 m ρ c main_arg1 = C m c := W1_args m ρ c main_arg1 (by decide)
  blk_simp [iblk0, idx0 t]
  refine (congrFun e _).trans ?_
  blk_ext [idx0 t]

/-- The gain a point reads is the argument. -/
theorem gain_read (t : Fin cfg0.N) (k : Fin 2048) :
    (iblk0 (V1 m ρ) c 2 t : Vec Ideal S1x2048 .f32) (ix2 0 k) = G m c (ix1 k) := by
  blk_simp [iblk0, idx0 t]
  change StableHlo.after hostOps0 (W0 m ρ c) main_v6 _ = _
  entry_read
  pointwise
  blk_ext [idx0 t]

/-- The scale a point reads is the modulation's. -/
theorem scale_read (t : Fin cfg0.N) (k : Fin 2048) (b : Fin 2) (hb : b.val = t.val / 32) :
    (iblk0 (V1 m ρ) c 3 t : Vec Ideal S1x1x2048 .f32) (ix3 0 0 k) = M m c (ix3 b 1 k) := by
  blk_simp [iblk0, idx0 t]
  change StableHlo.after hostOps0 (W0 m ρ c) main_v4 _ = _
  entry_read
  pointwise
  blk_ext [idx0 t]

/-- The shift a point reads is the modulation's. -/
theorem shift_read (t : Fin cfg0.N) (k : Fin 2048) (b : Fin 2) (hb : b.val = t.val / 32) :
    (iblk0 (V1 m ρ) c 4 t : Vec Ideal S1x1x2048 .f32) (ix3 0 0 k) = M m c (ix3 b 0 k) := by
  blk_simp [iblk0, idx0 t]
  change StableHlo.after hostOps0 (W0 m ρ c) main_v5 _ = _
  entry_read
  pointwise
  blk_ext [idx0 t]

/-- The rows under their norms, as one array. -/
def rows : FVec Ideal S8448x2048 .bf16 := fun z => rowNorm (X m c) (C m c) (M m c) (G m c) (z 0) (z 1)

/-- The first launch's output array. -/
theorem final_rows : (dat0 (V1 m ρ) c).arrAt 5 cfg0.N = rows m c := by
  refine (dat0 (V1 m ρ) c).arrAt_eq_of_covers 5 _ (by decide +kernel) fun t _ y => ?_
  blk_simp
  rw [after0_5]
  idx_vars y
  have i0 : ((((cfg0.win 5).blk t).view.emb (ix2 y0 y1)) 0).val = t.val * 256 + y0.val := by blk_simp [idx0 t]
  have i1 : ((((cfg0.win 5).blk t).view.emb (ix2 y0 y1)) 1).val = y1.val := by blk_simp [idx0 t]
  generalize ((cfg0.win 5).blk t).view.emb (ix2 y0 y1) = z at i0 i1 ⊢
  idx_vars z
  obtain rfl : z1 = y1 := Fin.ext i1
  have hz : (ix2 z0 z1 : S8448x2048.Idx) 0 = z0 ∧ (ix2 z0 z1 : S8448x2048.Idx) 1 = z1 := ⟨rfl, rfl⟩
  have ht : t.val < 33 := t.isLt
  by_cases h : t.val < 32
  · have hl : z0.val < 8192 := by have := y0.isLt; omega
    rw [outsAt0_A (V1 m ρ) c t h (by omega)]
    frame_out
    refine (pay_lat _ _ _ _ y0 z1).trans ?_
    refine Eq.trans ?_ (dif_pos hl).symm
    rw [show (fun k => (iblk0 (V1 m ρ) c 0 t : Vec Ideal S256x2048 .f32) (ix2 y0 k)) = fun k => X m c (ix2 ⟨z0.val, hl⟩ k)
        from funext fun k => x_read m ρ c t y0 k ⟨z0.val, hl⟩ h i0,
      show (iblk0 (V1 m ρ) c 2 t : Vec Ideal S1x2048 .f32) (ix2 0 z1) = G m c (ix1 z1) from gain_read m ρ c t z1,
      show (iblk0 (V1 m ρ) c 3 t : Vec Ideal S1x1x2048 .f32) (ix3 0 0 z1) = M m c (ix3 0 1 z1)
        from scale_read m ρ c t z1 0 (by show 0 = t.val / 32; omega),
      show (iblk0 (V1 m ρ) c 4 t : Vec Ideal S1x1x2048 .f32) (ix3 0 0 z1) = M m c (ix3 0 0 z1)
        from shift_read m ρ c t z1 0 (by show 0 = t.val / 32; omega)]
    rfl
  · have hl : ¬z0.val < 8192 := by omega
    rw [outsAt0_B (V1 m ρ) c t h (by omega)]
    frame_out
    refine (pay_ctx _ _ _ _ y0 z1).trans ?_
    refine Eq.trans ?_ (dif_neg hl).symm
    have hy : y0 = ⟨z0.val - 8192, by have := z0.isLt; omega⟩ := Fin.ext (by show y0.val = z0.val - 8192; omega)
    rw [show (fun k => (iblk0 (V1 m ρ) c 1 t : Vec Ideal S256x2048 .f32) (ix2 y0 k)) = fun k => C m c (ix2 y0 k)
        from funext fun k => c_read m ρ c t y0 k,
      show (iblk0 (V1 m ρ) c 2 t : Vec Ideal S1x2048 .f32) (ix2 0 z1) = G m c (ix1 z1) from gain_read m ρ c t z1,
      show (iblk0 (V1 m ρ) c 3 t : Vec Ideal S1x1x2048 .f32) (ix3 0 0 z1) = M m c (ix3 1 1 z1)
        from scale_read m ρ c t z1 1 (by show 1 = t.val / 32; omega),
      show (iblk0 (V1 m ρ) c 4 t : Vec Ideal S1x1x2048 .f32) (ix3 0 0 z1) = M m c (ix3 1 0 z1)
        from shift_read m ρ c t z1 1 (by show 1 = t.val / 32; omega), hy]
    rfl

/-- What the second launch reads as its rows. -/
theorem enter_rows : V3 m ρ c main_v7 = rows m c :=
  (W3_of m ρ c main_v7 (by decide)).trans ((W2_arr m ρ c 5).trans (final_rows m ρ c))

/-- What the second launch reads as its weights. -/
theorem enter_cols (k : Fin 2048) (n : Fin 16896) : (V3 m ρ c main_v13 : FVec Ideal S2048x16896 .bf16) (ix2 k n) = colW (Wt m c) k n := by
  have e : W2 m ρ c main_arg4 = Wt m c := W2_args m ρ c main_arg4 (by decide)
  exact (host_cols (W2 m ρ c) k n).trans (congrArg (colW · k n) e)

/-- An entry of the second launch's rows is one of the first launch's. -/
theorem rows_read (t : Fin cfg1.N) (r : Fin 768) (k : Fin 2048) (R : Fin 8448) (hR : R.val = t.val % 11 * 768 + r.val) :
    (iblk1 (V3 m ρ) c 0 t : Vec Ideal S768x2048 .bf16) (ix2 r k) = rows m c (ix2 R k) := by
  blk_simp [iblk1, idx1 t]
  refine (congrFun (enter_rows m ρ c) _).trans ?_
  blk_ext [idx1 t]

/-- An entry of the second launch's weights is one of the rearranged ones. -/
theorem cols_read (t : Fin cfg1.N) (k : Fin 2048) (n : Fin 1536) (N : Fin 16896) (hN : N.val = t.val / 11 * 1536 + n.val) :
    (iblk1 (V3 m ρ) c 1 t : Vec Ideal S2048x1536 .bf16) (ix2 k n) = colW (Wt m c) k N := by
  refine Eq.trans ?_ (enter_cols m ρ c k N)
  blk_ext [iblk1, idx1 t]

/-- The second launch's output array is the reference's result. -/
theorem final : (dat1 (V3 m ρ) c).arrAt 2 cfg1.N = val_main_v60 (F := Ideal) (X m c) (C m c) (M m c) (G m c) (Wt m c) := by
  refine (dat1 (V3 m ρ) c).arrAt_eq_of_covers 2 _ (by decide +kernel) fun t _ y => ?_
  blk_simp
  rw [after1_2]
  frame_out
  idx_vars y
  have i0 : ((((cfg1.win 2).blk t).view.emb (ix2 y0 y1)) 0).val = t.val % 11 * 768 + y0.val := by blk_simp [idx1 t]
  have i1 : ((((cfg1.win 2).blk t).view.emb (ix2 y0 y1)) 1).val = t.val / 11 * 1536 + y1.val := by blk_simp [idx1 t]
  generalize ((cfg1.win 2).blk t).view.emb (ix2 y0 y1) = z at i0 i1 ⊢
  idx_vars z
  refine (pay_prod _ _ y0 y1).trans (Eq.trans ?_ (ref_at _ _ _ _ _ z0 z1).symm)
  exact Finset.sum_congr rfl fun k _ => congrArg₂ (· * ·) (rows_read m ρ c t y0 k z0 i0) (cols_read m ρ c t k y1 z1 i1)

end Cert.In

end
-- ==== Proof.Merge.lean ====
/-
  The gated merge: every block of the kernel's result is the reference's sum at the block's place.
-/
module

public import proofs.«01_k».proof.Proof.Gen.MergeKernelIdeal.Value
public import proofs.«01_k».proof.Proof.Gen.MergeReferenceIdeal.Read
public import Idealize.ShloMosaic.Lib.Pointwise
public import Idealize.ShloMosaic.Lib.Pipeline.ValueKit

@[expose] public section

set_option maxRecDepth 16384

noncomputable section

namespace Cert.Merge

open Idealize.ShloMosaic Idealize.ShloMosaic.TcCoe Idealize.SL.Sem Cert.MergeKernelIdeal Cert.MergeKernelIdeal.Gen
open Cert.MergeReferenceIdeal.Read

variable (m : (ℓ : Loc nD τ sig) → Buf (Elt Ideal) ℓ) (c : Dev nD)

/-- The mLSTM's rows. -/
abbrev A : FVec Ideal S8192x2048 .bf16 := m ((c : Thread nD τ).loc main_arg0)
/-- The hyena's rows. -/
abbrev B : FVec Ideal S8192x2048 .bf16 := m ((c : Thread nD τ).loc main_arg1)
/-- The mixer's inputs, of whose columns the gates are 4096. -/
abbrev P : FVec Ideal S8448x16896 .f32 := m ((c : Thread nD τ).loc main_arg2)
/-- The mLSTM's weights. -/
abbrev U : FVec Ideal S2048x2048 .f32 := m ((c : Thread nD τ).loc main_arg3)
/-- The hyena's weights. -/
abbrev W : FVec Ideal S2048x2048 .f32 := m ((c : Thread nD τ).loc main_arg4)

/-- Which blocks a grid point reads and writes. -/
theorem idx : ∀ t : Fin cfg0.N,
    win0_0.index t = ![t.val % 16, 0] ∧ win0_1.index t = ![t.val % 16, 0] ∧ win0_2.index t = ![0, t.val / 16] ∧ win0_3.index t = ![0, t.val / 16]
    ∧ win0_4.index t = ![t.val % 16, 12 + t.val / 16] ∧ win0_5.index t = ![t.val % 16, 14 + t.val / 16]
    ∧ win0_6.index t = ![t.val % 16, t.val / 16] :=
  (by decide +kernel : ∀ t : Fin grid0.N, _)

/-- An entry of the mLSTM's block is one of the array's. -/
theorem a_read (t : Fin cfg0.N) (r : Fin 512) (k : Fin 2048) (R : Fin 8192) (hR : R.val = t.val % 16 * 512 + r.val) :
    (iblk m c 0 t : Vec Ideal S512x2048 .bf16) (ix2 r k) = A m c (ix2 R k) := by
  blk_ext [iblk, V, idx t]

/-- An entry of the hyena's block is one of the array's. -/
theorem b_read (t : Fin cfg0.N) (r : Fin 512) (k : Fin 2048) (R : Fin 8192) (hR : R.val = t.val % 16 * 512 + r.val) :
    (iblk m c 1 t : Vec Ideal S512x2048 .bf16) (ix2 r k) = B m c (ix2 R k) := by
  blk_ext [iblk, V, idx t]

/-- An entry of the mLSTM's weights is one of the argument's. -/
theorem u_read (t : Fin cfg0.N) (k : Fin 2048) (n : Fin 1024) (N : Fin 2048) (hN : N.val = t.val / 16 * 1024 + n.val) :
    (iblk m c 2 t : Vec Ideal S2048x1024 .bf16) (ix2 k n) = U m c (ix2 k N) := by
  blk_simp [iblk, idx t]
  entry_read
  pointwise
  blk_ext [idx t]

/-- An entry of the hyena's weights is one of the argument's. -/
theorem w_read (t : Fin cfg0.N) (k : Fin 2048) (n : Fin 1024) (N : Fin 2048) (hN : N.val = t.val / 16 * 1024 + n.val) :
    (iblk m c 3 t : Vec Ideal S2048x1024 .bf16) (ix2 k n) = W m c (ix2 k N) := by
  blk_simp [iblk, idx t]
  entry_read
  pointwise
  blk_ext [idx t]

/-- An entry of the mLSTM's gate is one of the array's. -/
theorem gm_read (t : Fin cfg0.N) (r : Fin 512) (n : Fin 1024) (R : Fin 8448) (N : Fin 16896) (hR : R.val = t.val % 16 * 512 + r.val)
    (hN : N.val = 12288 + t.val / 16 * 1024 + n.val) : (X0_4 m c t : Vec Ideal S512x1024 .f32) (ix2 r n) = P m c (ix2 R N) := by
  unfold X0_4 Pipeline.Window.fill
  rw [dif_pos (moved0_4 t _)]
  blk_ext [iblk, V, idx t]

/-- An entry of the hyena's gate is one of the array's. -/
theorem gh_read (t : Fin cfg0.N) (r : Fin 512) (n : Fin 1024) (R : Fin 8448) (N : Fin 16896) (hR : R.val = t.val % 16 * 512 + r.val)
    (hN : N.val = 14336 + t.val / 16 * 1024 + n.val) : (X0_5 m c t : Vec Ideal S512x1024 .f32) (ix2 r n) = P m c (ix2 R N) := by
  unfold X0_5 Pipeline.Window.fill
  rw [dif_pos (moved0_5 t _)]
  blk_ext [iblk, V, idx t]

/-- Two gates and two rows to the gated sum of the rows' products with two columns. -/
def merged (p q : EReal) (a u b w : Fin 2048 → EReal) : EReal :=
  Ideal.logistic p * (∑ k, a k * u k) + Ideal.logistic q * ∑ k, b k * w k

/-- The reference's merge at an index. -/
theorem ref_at (a b : FVec Ideal S8192x2048 .bf16) (p : FVec Ideal S8448x16896 .f32) (u w : FVec Ideal S2048x2048 .f32) (r : Fin 8192) (n : Fin 2048) :
    val_main_v21 (F := Ideal) a b p u w (ix2 r n)
      = merged (p (ix2 ⟨r.val, by omega⟩ ⟨12288 + n.val, by omega⟩)) (p (ix2 ⟨r.val, by omega⟩ ⟨14336 + n.val, by omega⟩))
        (fun k => a (ix2 r k)) (fun k => u (ix2 k n)) (fun k => b (ix2 r k)) (fun k => w (ix2 k n)) := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_v2, val_main_v1, val_main_v0, merged]
  rw [show (val_main_cst (F := Ideal) _ : EReal) = 1 from Ideal.ofBits_one_f32, show (val_main_cst_0 (F := Ideal) _ : EReal) = 1 from Ideal.ofBits_one_f32,
    show (val_main_cst_1 (F := Ideal) _ : EReal) = 1 from Ideal.ofBits_one_f32, show (val_main_cst_2 (F := Ideal) _ : EReal) = 1 from Ideal.ofBits_one_f32]
  rfl

/-- The kernel's merge of blocks at an index. -/
theorem pay_at (a : FVec Ideal S512x2048 .bf16) (u : FVec Ideal S2048x1024 .bf16) (b : FVec Ideal S512x2048 .bf16) (w : FVec Ideal S2048x1024 .bf16)
    (p q : FVec Ideal S512x1024 .f32) (r : Fin 512) (n : Fin 1024) :
    k0_pay1 (F := Ideal) a u b w p q (ix2 r n) = merged (p (ix2 r n)) (q (ix2 r n))
      (fun k => a (ix2 r k)) (fun k => u (ix2 k n)) (fun k => b (ix2 r k)) (fun k => w (ix2 k n)) := by
  pointwise [k0_pay1, merged]

/-- The result array after the run. -/
theorem final : (dats m 0 c).arrAt 6 (cfgs 0).N = val_main_v21 (F := Ideal) (A m c) (B m c) (P m c) (U m c) (W m c) := by
  refine (dats m 0 c).arrAt_eq_of_covers 6 _ (by decide +kernel) fun t _ y => ?_
  blk_simp
  rw [after0_6]
  unfold outsAt0
  frame_out
  idx_vars y
  have i0 : ((((cfg0.win 6).blk t).view.emb (ix2 y0 y1)) 0).val = t.val % 16 * 512 + y0.val := by blk_simp [idx t]
  have i1 : ((((cfg0.win 6).blk t).view.emb (ix2 y0 y1)) 1).val = t.val / 16 * 1024 + y1.val := by blk_simp [idx t]
  generalize ((cfg0.win 6).blk t).view.emb (ix2 y0 y1) = z at i0 i1 ⊢
  idx_vars z
  have l0 : z0.val < 8192 := z0.isLt
  have l1 : z1.val < 2048 := z1.isLt
  refine (pay_at _ _ _ _ _ _ y0 y1).trans (Eq.trans ?_ (ref_at _ _ _ _ _ z0 z1).symm)
  rw [show (X0_4 m c t : Vec Ideal S512x1024 .f32) (ix2 y0 y1) = P m c (ix2 ⟨z0.val, by omega⟩ ⟨12288 + z1.val, by omega⟩) from
      gm_read m c t y0 y1 _ _ i0 (by show 12288 + z1.val = _; omega),
    show (X0_5 m c t : Vec Ideal S512x1024 .f32) (ix2 y0 y1) = P m c (ix2 ⟨z0.val, by omega⟩ ⟨14336 + z1.val, by omega⟩) from
      gh_read m c t y0 y1 _ _ i0 (by show 14336 + z1.val = _; omega),
    show (fun k => (iblk m c 0 t : Vec Ideal S512x2048 .bf16) (ix2 y0 k)) = fun k => A m c (ix2 z0 k) from funext fun k => a_read m c t y0 k z0 i0,
    show (fun k => (iblk m c 1 t : Vec Ideal S512x2048 .bf16) (ix2 y0 k)) = fun k => B m c (ix2 z0 k) from funext fun k => b_read m c t y0 k z0 i0,
    show (fun k => (iblk m c 2 t : Vec Ideal S2048x1024 .bf16) (ix2 k y1)) = fun k => U m c (ix2 k z1) from funext fun k => u_read m c t k y1 z1 i1,
    show (fun k => (iblk m c 3 t : Vec Ideal S2048x1024 .bf16) (ix2 k y1)) = fun k => W m c (ix2 k z1) from funext fun k => w_read m c t k y1 z1 i1]

end Cert.Merge

end
-- ==== Proof.Final.lean ====
/-
  The last norm: every block of the kernel's result is the reference's norm at the block's place.
-/
module

public import proofs.«01_k».proof.Proof.Gen.FinalKernelIdeal.Value
public import proofs.«01_k».proof.Proof.Gen.FinalReferenceIdeal.Read
public import proofs.«01_k».proof.Proof.Norm
public import Idealize.ShloMosaic.Lib.Pointwise
public import Idealize.ShloMosaic.Lib.Pipeline.ValueKit

@[expose] public section

set_option maxRecDepth 16384

noncomputable section

namespace Cert.Final

open Idealize.ShloMosaic Idealize.ShloMosaic.TcCoe Idealize.SL.Sem Cert.FinalKernelIdeal Cert.FinalKernelIdeal.Gen
open Cert.FinalReferenceIdeal.Read Cert.Norm

variable (m : (ℓ : Loc nD τ sig) → Buf (Elt Ideal) ℓ) (c : Dev nD)

/-- The residual rows. -/
abbrev H : FVec Ideal S8192x2048 .f32 := m ((c : Thread nD τ).loc main_arg0)
/-- The channel mixer's rows. -/
abbrev Q : FVec Ideal S8192x2048 .f32 := m ((c : Thread nD τ).loc main_arg1)
/-- The modulation. -/
abbrev M : FVec Ideal S2x6x2048 .f32 := m ((c : Thread nD τ).loc main_arg2)
/-- The norm's gain. -/
abbrev G : FVec Ideal S2048 .f32 := m ((c : Thread nD τ).loc main_arg3)

/-- Which blocks a grid point reads and writes. -/
theorem idx : ∀ t : Fin cfg0.N,
    win0_0.index t = ![t.val, 0] ∧ win0_1.index t = ![t.val, 0] ∧ win0_2.index t = ![0, 0] ∧ win0_3.index t = ![0, 0]
    ∧ win0_4.index t = ![t.val, 0] :=
  (by decide +kernel : ∀ t : Fin grid0.N, _)

/-- An entry of the residual rows' block is one of the array's. -/
theorem h_read (t : Fin cfg0.N) (r : Fin 256) (k : Fin 2048) (R : Fin 8192) (hR : R.val = t.val * 256 + r.val) :
    (iblk m c 0 t : Vec Ideal S256x2048 .f32) (ix2 r k) = H m c (ix2 R k) := by
  blk_ext [iblk, V, idx t]

/-- An entry of the mixer's block is one of the array's. -/
theorem q_read (t : Fin cfg0.N) (r : Fin 256) (k : Fin 2048) (R : Fin 8192) (hR : R.val = t.val * 256 + r.val) :
    (iblk m c 1 t : Vec Ideal S256x2048 .f32) (ix2 r k) = Q m c (ix2 R k) := by
  blk_ext [iblk, V, idx t]

/-- The gate a point reads is the modulation of the latents. -/
theorem gate_read (t : Fin cfg0.N) (k : Fin 2048) :
    (iblk m c 2 t : Vec Ideal S1x2048 .f32) (ix2 0 k) = M m c (ix3 0 5 k) := by
  blk_simp [iblk, idx t]
  entry_read
  pointwise
  blk_ext [idx t]

/-- The gain a point reads is the argument. -/
theorem gain_read (t : Fin cfg0.N) (k : Fin 2048) :
    (iblk m c 3 t : Vec Ideal S1x2048 .f32) (ix2 0 k) = G m c (ix1 k) := by
  blk_simp [iblk, idx t]
  entry_read
  pointwise
  blk_ext [idx t]

/-- The reference's norm at an index. -/
theorem ref_at (h q : FVec Ideal S8192x2048 .f32) (s : FVec Ideal S2x6x2048 .f32) (g : FVec Ideal S2048 .f32) (r : Fin 8192) (n : Fin 2048) :
    val_main_v18 (F := Ideal) h q s g (ix2 r n)
      = normed (fun k => h (ix2 r k) + s (ix3 0 5 k) * q (ix2 r k)) n * g (ix1 n) := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, normed]
  rw [show (val_main_cst (F := Ideal) _ : EReal) = 0 from Ideal.ofBits_zero .f32, zero_add]
  rfl

/-- The kernel's norm of a block at an index. -/
theorem pay_at (h : FVec Ideal S256x2048 .f32) (s : FVec Ideal S1x2048 .f32) (q : FVec Ideal S256x2048 .f32) (g : FVec Ideal S1x2048 .f32)
    (r : Fin 256) (n : Fin 2048) :
    k0_pay1 (F := Ideal) h s q g (ix2 r n) = normed (fun k => h (ix2 r k) + s (ix2 0 k) * q (ix2 r k)) n * g (ix2 0 n) := by
  pointwise [k0_pay1, normed]

/-- The result array after the run. -/
theorem final : (dats m 0 c).arrAt 4 (cfgs 0).N = val_main_v18 (F := Ideal) (H m c) (Q m c) (M m c) (G m c) := by
  refine (dats m 0 c).arrAt_eq_of_covers 4 _ (by decide +kernel) fun t _ y => ?_
  blk_simp
  rw [after0_4]
  frame_out
  idx_vars y
  have i0 : ((((cfg0.win 4).blk t).view.emb (ix2 y0 y1)) 0).val = t.val * 256 + y0.val := by blk_simp [idx t]
  have i1 : ((((cfg0.win 4).blk t).view.emb (ix2 y0 y1)) 1).val = y1.val := by blk_simp [idx t]
  generalize ((cfg0.win 4).blk t).view.emb (ix2 y0 y1) = z at i0 i1 ⊢
  idx_vars z
  obtain rfl : z1 = y1 := Fin.ext i1
  refine (pay_at _ _ _ _ y0 z1).trans (Eq.trans ?_ (ref_at _ _ _ _ z0 z1).symm)
  refine congrArg₂ (fun (f : Fin 2048 → EReal) (g : EReal) => normed f z1 * g) (funext fun k => ?_) (gain_read m c t z1)
  exact congrArg₂ (· + ·) (h_read m c t y0 k z0 i0) (congrArg₂ (· * ·) (gate_read m c t k) (q_read m c t y0 k z0 i0))

end Cert.Final

end
-- ==== Proof.Query.lean ====
/-
  The queries' projection: every block of the kernel's result is the reference's product at the block's place.
-/
module

public import proofs.«01_k».proof.Proof.Gen.QueryKernelIdeal.Value
public import proofs.«01_k».proof.Proof.Gen.QueryReferenceIdeal.Read
public import Idealize.ShloMosaic.Lib.Pointwise
public import Idealize.ShloMosaic.Lib.Pipeline.ValueKit

@[expose] public section

set_option maxRecDepth 16384

noncomputable section

namespace Cert.Query

open Idealize.ShloMosaic Idealize.ShloMosaic.TcCoe Idealize.SL.Sem Cert.QueryKernelIdeal Cert.QueryKernelIdeal.Gen
open Cert.QueryReferenceIdeal.Read

variable (m : (ℓ : Loc nD τ sig) → Buf (Elt Ideal) ℓ) (c : Dev nD)

/-- The rows. -/
abbrev X : FVec Ideal S8192x2048 .bf16 := m ((c : Thread nD τ).loc main_arg0)
/-- The weights. -/
abbrev W : FVec Ideal S2048x2048 .f32 := m ((c : Thread nD τ).loc main_arg1)

/-- Which blocks a grid point reads and writes. -/
theorem idx : ∀ t : Fin cfg0.N,
    win0_0.index t = ![t.val % 16, 0] ∧ win0_1.index t = ![0, t.val / 16] ∧ win0_2.index t = ![t.val % 16, t.val / 16] :=
  (by decide +kernel : ∀ t : Fin grid0.N, _)

/-- A block of rows at an index. -/
theorem x_read (t : Fin cfg0.N) (r : Fin 512) (k : Fin 2048) (R : Fin 8192) (hR : R.val = t.val % 16 * 512 + r.val) :
    (iblk m c 0 t : Vec Ideal S512x2048 .bf16) (ix2 r k) = X m c (ix2 R k) := by
  blk_ext [iblk, V, idx t]

/-- A block of weights at an index. -/
theorem w_read (t : Fin cfg0.N) (k : Fin 2048) (r : Fin 512) (R : Fin 2048) (hR : R.val = t.val / 16 * 512 + r.val) :
    (iblk m c 1 t : Vec Ideal S2048x512 .bf16) (ix2 k r) = W m c (ix2 k R) := by
  blk_simp [iblk, idx t]
  entry_read
  pointwise
  blk_ext [idx t]

/-- The reference's product at an index. -/
theorem ref_at (x : FVec Ideal S8192x2048 .bf16) (w : FVec Ideal S2048x2048 .f32) (r : Fin 8192) (n : Fin 2048) :
    val_main_v2 (F := Ideal) x w (ix2 r n) = ∑ k : Fin 2048, x (ix2 r k) * w (ix2 k n) := by
  pointwise [val_main_v2, val_main_v1, val_main_v0]

/-- The kernel's product of two blocks at an index. -/
theorem pay_at (x : FVec Ideal S512x2048 .bf16) (w : FVec Ideal S2048x512 .bf16) (r n : Fin 512) :
    k0_pay1 (F := Ideal) x w (ix2 r n) = ∑ k : Fin 2048, x (ix2 r k) * w (ix2 k n) := by
  pointwise [k0_pay1]

/-- The result array after the run. -/
theorem final : (dats m 0 c).arrAt 2 (cfgs 0).N = val_main_v2 (F := Ideal) (X m c) (W m c) := by
  refine (dats m 0 c).arrAt_eq_of_covers 2 _ (by decide +kernel) fun t _ y => ?_
  blk_simp
  rw [after0_2]
  frame_out
  idx_vars y
  have i0 : ((((cfg0.win 2).blk t).view.emb (ix2 y0 y1)) 0).val = t.val % 16 * 512 + y0.val := by blk_simp [idx t]
  have i1 : ((((cfg0.win 2).blk t).view.emb (ix2 y0 y1)) 1).val = t.val / 16 * 512 + y1.val := by blk_simp [idx t]
  generalize ((cfg0.win 2).blk t).view.emb (ix2 y0 y1) = z at i0 i1 ⊢
  idx_vars z
  refine (pay_at _ _ y0 y1).trans ((Finset.sum_congr rfl fun k _ => ?_).trans (ref_at _ _ z0 z1).symm)
  exact congrArg₂ (· * ·) (x_read m c t y0 k z0 i0) (w_read m c t k y1 z1 i1)

end Cert.Query

end
-- ==== Proof.Out.lean ====
/-
  The output projection: every block of the kernel's two results is the reference's at the block's place.
-/
module

public import proofs.«01_k».proof.Proof.Gen.OutKernelIdeal.Value
public import proofs.«01_k».proof.Proof.Gen.OutReferenceIdeal.Read
public import proofs.«01_k».proof.Proof.Norm
public import Idealize.ShloMosaic.Lib.Pointwise
public import Idealize.ShloMosaic.Lib.Pipeline.ValueKit

@[expose] public section

set_option maxRecDepth 16384

noncomputable section

namespace Cert.Out

open Idealize.ShloMosaic Idealize.ShloMosaic.TcCoe Idealize.SL.Sem Cert.OutKernelIdeal Cert.OutKernelIdeal.Gen
open Cert.OutReferenceIdeal.Read Cert.Norm

variable (m : (ℓ : Loc nD τ sig) → Buf (Elt Ideal) ℓ) (c : Dev nD)

/-- The merged rows. -/
abbrev Y : FVec Ideal S8192x2048 .bf16 := m ((c : Thread nD τ).loc main_arg0)
/-- The projection's weights. -/
abbrev W : FVec Ideal S2048x2048 .f32 := m ((c : Thread nD τ).loc main_arg1)
/-- The residual rows. -/
abbrev X : FVec Ideal S8192x2048 .f32 := m ((c : Thread nD τ).loc main_arg2)
/-- The modulation. -/
abbrev M : FVec Ideal S2x6x2048 .f32 := m ((c : Thread nD τ).loc main_arg3)
/-- The norm's gain. -/
abbrev G : FVec Ideal S2048 .f32 := m ((c : Thread nD τ).loc main_arg4)

/-- Which blocks a grid point reads and writes. -/
theorem idx : ∀ t : Fin cfg0.N,
    win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- An entry of the merged rows' block is one of the array's. -/
theorem y_read (t : Fin cfg0.N) (r : Fin 256) (k : Fin 2048) (R : Fin 8192) (hR : R.val = t.val * 256 + r.val) :
    (iblk m c 0 t : Vec Ideal S256x2048 .bf16) (ix2 r k) = Y m c (ix2 R k) := by
  blk_ext [iblk, V, idx t]

/-- An entry of the weights is one of the argument's. -/
theorem w_read (t : Fin cfg0.N) (k n : Fin 2048) :
    (iblk m c 1 t : Vec Ideal S2048x2048 .bf16) (ix2 k n) = W m c (ix2 k n) := by
  blk_simp [iblk, idx t]
  entry_read
  pointwise
  blk_ext [idx t]

/-- An entry of the residual rows' block is one of the array's. -/
theorem x_read (t : Fin cfg0.N) (r : Fin 256) (k : Fin 2048) (R : Fin 8192) (hR : R.val = t.val * 256 + r.val) :
    (iblk m c 2 t : Vec Ideal S256x2048 .f32) (ix2 r k) = X m c (ix2 R k) := by
  blk_ext [iblk, V, idx t]

/-- The gate a point reads is the modulation of the latents. -/
theorem gate_read (t : Fin cfg0.N) (k : Fin 2048) :
    (iblk m c 3 t : Vec Ideal S1x2048 .f32) (ix2 0 k) = M m c (ix3 0 2 k) := by
  blk_simp [iblk, idx t]
  entry_read
  pointwise
  blk_ext [idx t]

/-- The gain a point reads is the argument. -/
theorem gain_read (t : Fin cfg0.N) (k : Fin 2048) :
    (iblk m c 4 t : Vec Ideal S1x2048 .f32) (ix2 0 k) = G m c (ix1 k) := by
  blk_simp [iblk, idx t]
  entry_read
  pointwise
  blk_ext [idx t]

/-- The scale a point reads is the modulation of the latents. -/
theorem scale_read (t : Fin cfg0.N) (k : Fin 2048) :
    (iblk m c 5 t : Vec Ideal S1x2048 .f32) (ix2 0 k) = M m c (ix3 0 4 k) := by
  blk_simp [iblk, idx t]
  entry_read
  pointwise
  blk_ext [idx t]

/-- The shift a point reads is the modulation of the latents. -/
theorem shift_read (t : Fin cfg0.N) (k : Fin 2048) :
    (iblk m c 6 t : Vec Ideal S1x2048 .f32) (ix2 0 k) = M m c (ix3 0 3 k) := by
  blk_simp [iblk, idx t]
  entry_read
  pointwise
  blk_ext [idx t]

section ref

variable (y : FVec Ideal S8192x2048 .bf16) (w : FVec Ideal S2048x2048 .f32) (x : FVec Ideal S8192x2048 .f32)
  (s : FVec Ideal S2x6x2048 .f32) (g : FVec Ideal S2048 .f32)

/-- The reference's residual at an index. -/
theorem ref_sum (r : Fin 8192) (n : Fin 2048) :
    val_main_v7 (F := Ideal) y w x s (ix2 r n) = x (ix2 r n) + s (ix3 0 2 n) * ∑ k : Fin 2048, y (ix2 r k) * w (ix2 k n) := by
  pointwise [val_main_v7, val_main_v6, val_main_v5, val_main_v4, val_main_v3, val_main_v2, val_main_v1, val_main_v0]

/-- The reference's second norm at an index, over its residual. -/
theorem ref_norm (r : Fin 8192) (n : Fin 2048) :
    val_main_v33 (F := Ideal) y w x s g (ix2 r n)
      = modulated (fun k => val_main_v7 (F := Ideal) y w x s (ix2 r k)) n (g (ix1 n)) (s (ix3 0 4 n)) (s (ix3 0 3 n)) := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v13, val_main_v12, val_main_v11, val_main_v10, val_main_v9, val_main_v8, modulated, normed]
  rw [show (val_main_cst (F := Ideal) _ : EReal) = 0 from Ideal.ofBits_zero .f32, zero_add,
    show (val_main_cst_2 (F := Ideal) _ : EReal) = 1 from Ideal.ofBits_one_f32]
  rfl

end ref

section pay

variable (x : FVec Ideal S256x2048 .f32) (g1 : FVec Ideal S1x2048 .f32) (y : FVec Ideal S256x2048 .bf16) (w : FVec Ideal S2048x2048 .bf16)
  (g sc sh : FVec Ideal S1x2048 .f32)

/-- The kernel's residual of a block at an index. -/
theorem pay_sum (r : Fin 256) (n : Fin 2048) :
    k0_pay1 (F := Ideal) x g1 y w (ix2 r n) = x (ix2 r n) + g1 (ix2 0 n) * ∑ k : Fin 2048, y (ix2 r k) * w (ix2 k n) := by
  pointwise [k0_pay1]

/-- The kernel's second norm of a block at an index, over its residual. -/
theorem pay_norm (r : Fin 256) (n : Fin 2048) :
    k0_pay2 (F := Ideal) x g1 y w g sc sh (ix2 r n)
      = modulated (fun k => k0_pay1 (F := Ideal) x g1 y w (ix2 r k)) n (g (ix2 0 n)) (sc (ix2 0 n)) (sh (ix2 0 n)) := by
  pointwise [k0_pay2, modulated, normed]

end pay

/-- A block's residual is the reference's at the block's place. -/
theorem sum_eq (t : Fin cfg0.N) (r : Fin 256) (n : Fin 2048) (R : Fin 8192) (hR : R.val = t.val * 256 + r.val) :
    k0_pay1 (F := Ideal) (iblk m c 2 t) (iblk m c 3 t) (iblk m c 0 t) (iblk m c 1 t) (ix2 r n)
      = val_main_v7 (F := Ideal) (Y m c) (W m c) (X m c) (M m c) (ix2 R n) := by
  refine (pay_sum _ _ _ _ r n).trans (Eq.trans ?_ (ref_sum _ _ _ _ R n).symm)
  exact congrArg₂ (· + ·) (x_read m c t r n R hR) (congrArg₂ (· * ·) (gate_read m c t n)
    (Finset.sum_congr rfl fun k _ => congrArg₂ (· * ·) (y_read m c t r k R hR) (w_read m c t k n)))

/-- The first result's array after the run. -/
theorem final_sum : (dats m 0 c).arrAt 7 (cfgs 0).N = val_main_v7 (F := Ideal) (Y m c) (W m c) (X m c) (M m c) := by
  refine (dats m 0 c).arrAt_eq_of_covers 7 _ (by decide +kernel) fun t _ y => ?_
  blk_simp
  rw [after0_7]
  frame_out
  idx_vars y
  have i0 : ((((cfg0.win 7).blk t).view.emb (ix2 y0 y1)) 0).val = t.val * 256 + y0.val := by blk_simp [idx t]
  have i1 : ((((cfg0.win 7).blk t).view.emb (ix2 y0 y1)) 1).val = y1.val := by blk_simp [idx t]
  generalize ((cfg0.win 7).blk t).view.emb (ix2 y0 y1) = z at i0 i1 ⊢
  idx_vars z
  obtain rfl : z1 = y1 := Fin.ext i1
  exact sum_eq m c t y0 z1 z0 i0

/-- The second result's array after the run. -/
theorem final_norm : (dats m 0 c).arrAt 8 (cfgs 0).N = val_main_v33 (F := Ideal) (Y m c) (W m c) (X m c) (M m c) (G m c) := by
  refine (dats m 0 c).arrAt_eq_of_covers 8 _ (by decide +kernel) fun t _ y => ?_
  blk_simp
  rw [after0_8]
  frame_out
  idx_vars y
  have i0 : ((((cfg0.win 8).blk t).view.emb (ix2 y0 y1)) 0).val = t.val * 256 + y0.val := by blk_simp [idx t]
  have i1 : ((((cfg0.win 8).blk t).view.emb (ix2 y0 y1)) 1).val = y1.val := by blk_simp [idx t]
  generalize ((cfg0.win 8).blk t).view.emb (ix2 y0 y1) = z at i0 i1 ⊢
  idx_vars z
  obtain rfl : z1 = y1 := Fin.ext i1
  refine (pay_norm _ _ _ _ _ _ _ y0 z1).trans (Eq.trans ?_ (ref_norm _ _ _ _ _ z0 z1).symm)
  rw [show (fun k => k0_pay1 (F := Ideal) (iblk m c 2 t) (iblk m c 3 t) (iblk m c 0 t) (iblk m c 1 t) (ix2 y0 k))
      = fun k => val_main_v7 (F := Ideal) (Y m c) (W m c) (X m c) (M m c) (ix2 z0 k) from funext fun k => sum_eq m c t y0 k z0 i0]
  rw [show (iblk m c 4 t : Vec Ideal S1x2048 .f32) (ix2 0 z1) = G m c (ix1 z1) from gain_read m c t z1,
    show (iblk m c 5 t : Vec Ideal S1x2048 .f32) (ix2 0 z1) = M m c (ix3 0 4 z1) from scale_read m c t z1,
    show (iblk m c 6 t : Vec Ideal S1x2048 .f32) (ix2 0 z1) = M m c (ix3 0 3 z1) from shift_read m c t z1]

end Cert.Out

end
-- ==== Proof.Words.lean ====
/-
  Comparisons of the words that count rows.
-/
module

public import proofs.«01_k».proof.Proof.Masks

@[expose] public section

noncomputable section

namespace Cert.Words

open Idealize.ShloMosaic

/-- The word of row `r` of block `i`. -/
theorem at_row (i r : ℕ) : IntOp.addi (Scalar.muli (BitVec.ofNat 32 i) 256#32) (BitVec.ofNat 32 r) = BitVec.ofNat 32 (i * 256 + r) := by
  show BitVec.ofNat 32 i * BitVec.ofNat 32 256 + BitVec.ofNat 32 r = _
  rw [← BitVec.ofNat_mul, ← BitVec.ofNat_add]

/-- A small number, as a word read signed, is itself. -/
theorem int_word (g : ℕ) (hg : g < 2 ^ 31) : (BitVec.ofNat 32 g).toInt = g := by
  rw [BitVec.toInt_eq_toNat_cond, BitVec.toNat_ofNat, Nat.mod_eq_of_lt (by omega), if_pos (by omega)]

/-- "At least" of small words. -/
theorem ge_word (g k : ℕ) (hg : g < 2 ^ 31) (hk : k < 2 ^ 31) :
    IntOp.cmpi CmpIPredicate.sge (BitVec.ofNat 32 g) (BitVec.ofNat 32 k) = if k ≤ g then 1#1 else 0#1 := by
  show BitVec.ofBool ((BitVec.ofNat 32 k).sle (BitVec.ofNat 32 g)) = _
  rw [BitVec.sle_eq_decide, int_word g hg, int_word k hk]
  by_cases h : k ≤ g <;> simp [h]

/-- "Less" of small words. -/
theorem lt_word (g k : ℕ) (hg : g < 2 ^ 31) (hk : k < 2 ^ 31) :
    IntOp.cmpi CmpIPredicate.slt (BitVec.ofNat 32 g) (BitVec.ofNat 32 k) = if g < k then 1#1 else 0#1 := by
  show BitVec.ofBool ((BitVec.ofNat 32 g).slt (BitVec.ofNat 32 k)) = _
  rw [BitVec.slt_eq_decide, int_word g hg, int_word k hk]
  by_cases h : g < k <;> simp [h]

/-- A choice by "at least". -/
theorem pick_ge {α : Type} (g k : ℕ) (hg : g < 2 ^ 31) (hk : k < 2 ^ 31) (a b : α) :
    Scalar.select (IntOp.cmpi CmpIPredicate.sge (BitVec.ofNat 32 g) (BitVec.ofNat 32 k)) a b = if k ≤ g then a else b := by
  rw [ge_word g k hg hk]
  exact Mlstm.select_ite _ _ _

/-- A choice by "less". -/
theorem pick_lt {α : Type} (g k : ℕ) (hg : g < 2 ^ 31) (hk : k < 2 ^ 31) (a b : α) :
    Scalar.select (IntOp.cmpi CmpIPredicate.slt (BitVec.ofNat 32 g) (BitVec.ofNat 32 k)) a b = if g < k then a else b := by
  rw [lt_word g k hg hk]
  exact Mlstm.select_ite _ _ _

/-- The column of row `g` of a grid of 64 columns. -/
theorem mod_word (g : ℕ) (hg : g < 2 ^ 31) : IntOp.andi (BitVec.ofNat 32 g) 63#32 = BitVec.ofNat 32 (g % 64) := by
  show BitVec.ofNat 32 g &&& 63#32 = _
  apply BitVec.eq_of_toNat_eq
  rw [BitVec.toNat_and, BitVec.toNat_ofNat, BitVec.toNat_ofNat, Nat.mod_eq_of_lt (by omega : g < 2 ^ 32)]
  rw [show 63 % 2 ^ 32 = 2 ^ 6 - 1 from rfl, Nat.and_two_pow_sub_one_eq_mod, BitVec.toNat_ofNat]
  omega

end Cert.Words

end
-- ==== Proof.Conv.lean ====
/-
  The convolutions of the mLSTM's queries and keys: every block of the kernel's result is the reference's rows at the block's place.
-/
module

public import proofs.«01_k».proof.Proof.Gen.ConvKernelIdeal.Value
public import proofs.«01_k».proof.Proof.Gen.ConvReferenceIdeal.Read
public import proofs.«01_k».proof.Proof.Words
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Conv

open Idealize.ShloMosaic Idealize.ShloMosaic.TcCoe Idealize.SL.Sem Cert.ConvKernelIdeal Cert.ConvKernelIdeal.Gen
open Cert.ConvReferenceIdeal.Read

variable (m : (ℓ : Loc nD τ sig) → Buf (Elt Ideal) ℓ) (c : Dev nD)

/-- The rows, of whose columns the first 2048 are the queries and keys. -/
abbrev P : FVec Ideal S8448x16896 .f32 := m ((c : Thread nD τ).loc main_arg0)
/-- The nine taps of every column. -/
abbrev W : FVec Ideal S3x3x2048 .f32 := m ((c : Thread nD τ).loc main_arg1)

/-- Which blocks a grid point reads and writes. -/
theorem idx : ∀ t : Fin cfg0.N,
    (1 ≤ t.val % 33 → win0_0.index t = ![t.val % 33 * 2 - 1, t.val / 33]) ∧ win0_1.index t = ![t.val % 33, t.val / 33]
    ∧ (t.val % 33 ≤ 31 → win0_2.index t = ![(t.val % 33 + 1) * 2, t.val / 33]) ∧ win0_3.index t = ![0, t.val / 33]
    ∧ win0_4.index t = ![t.val % 33, t.val / 33] ∧ (grid0.coords t 1).val = t.val % 33 ∧ (grid0.coords t 0).val = t.val / 33 :=
  (by decide +kernel : ∀ t : Fin grid0.N, _)

/-- The rows before the point's own. -/
theorem prev_read (t : Fin cfg0.N) (h : 1 ≤ t.val % 33) (r : Fin 128) (n : Fin 512) (R : Fin 8448) (N : Fin 16896)
    (hR : R.val = (t.val % 33 * 2 - 1) * 128 + r.val) (hN : N.val = t.val / 33 * 512 + n.val) :
    (iblk m c 0 t : Vec Ideal S128x512 .f32) (ix2 r n) = P m c (ix2 R N) := by
  have e := (idx t).1 h
  blk_ext [iblk, V, e]

/-- The point's own rows. -/
theorem cur_read (t : Fin cfg0.N) (r : Fin 256) (n : Fin 512) (R : Fin 8448) (N : Fin 16896)
    (hR : R.val = t.val % 33 * 256 + r.val) (hN : N.val = t.val / 33 * 512 + n.val) :
    (iblk m c 1 t : Vec Ideal S256x512 .f32) (ix2 r n) = P m c (ix2 R N) := by
  have e := (idx t).2.1
  blk_ext [iblk, V, e]

/-- The rows after the point's own. -/
theorem next_read (t : Fin cfg0.N) (h : t.val % 33 ≤ 31) (r : Fin 128) (n : Fin 512) (R : Fin 8448) (N : Fin 16896)
    (hR : R.val = (t.val % 33 + 1) * 256 + r.val) (hN : N.val = t.val / 33 * 512 + n.val) :
    (iblk m c 2 t : Vec Ideal S128x512 .f32) (ix2 r n) = P m c (ix2 R N) := by
  have e := (idx t).2.2.1 h
  blk_ext [iblk, V, e]

/-- The taps, three rows of three in one column. -/
theorem w_read (t : Fin cfg0.N) (k : Fin 9) (a b : Fin 3) (n : Fin 512) (N : Fin 2048) (hN : N.val = t.val / 33 * 512 + n.val)
    (hk : k.val = 3 * a.val + b.val) : (iblk m c 3 t : Vec Ideal S9x512 .f32) (ix2 k n) = W m c (ix3 a b N) := by
  have e := (idx t).2.2.2.1
  blk_simp [iblk, e]
  entry_read
  pointwise
  blk_ext [e]

/-- The rows the scratch buffer holds: the point's own, 128 before and 128 after. -/
abbrev buf (t : Fin cfg0.N) : List (View.Piece (Elt Ideal) S512x512 .f32) :=
  [⟨Rect.unit ![384, 0] ![128, 512] inb_S512x512_S128x512_384_0, k0_pay3 (iblk m c 2 t)⟩,
    ⟨Rect.unit ![128, 0] ![256, 512] inb_S512x512_S256x512_128_0, k0_pay2 (iblk m c 1 t)⟩,
    ⟨Rect.unit ![0, 0] ![128, 512] inb_S512x512_S128x512_0_0, k0_pay1 (iblk m c 0 t)⟩]

/-- The buffer holds the block's rows with 128 rows before and behind them. -/
theorem buf_at (t : Fin cfg0.N) (q : Fin 512) (n : Fin 512) (R : Fin 8448) (N : Fin 16896) (hR : R.val + 128 = t.val % 33 * 256 + q.val)
    (hN : N.val = t.val / 33 * 512 + n.val) : View.canon (buf m c t) (ix2 q n) = P m c (ix2 R N) := by
  canon_tiles x hx using View.cover_of_tiledBy (buf m c t) ![128, 512] (by sl_kernel_rfl) _
  all_goals open_payloads
  all_goals idx_vars x
  all_goals pointwise
  · exact next_read m c t (by omega) _ _ R N (by omega) (by omega)
  · exact cur_read m c t _ _ R N (by omega) (by omega)
  · exact prev_read m c t (by omega) _ _ R N (by omega) (by omega)

/-- The buffer read from row `o` on. -/
theorem tap_at (t : Fin cfg0.N) (o : ℕ) (h : ∀ a, (![o, 0] : Fin 2 → ℕ) a + (![256, 512] : Fin 2 → ℕ) a ≤ S512x512.size a) (r : Fin 256)
    (n : Fin 512) (R : Fin 8448) (N : Fin 16896) (hR : R.val + 128 = t.val % 33 * 256 + (o + r.val)) (hN : N.val = t.val / 33 * 512 + n.val) :
    ((View.whole cc0_scratch0).readCov (buf m c t) (Rect.unit (s := S512x512) ![o, 0] ![256, 512] h).toLoadRect : FVec Ideal S256x512 .f32) (ix2 r n)
      = P m c (ix2 R N) := by
  rw [View.readCov_eq_canon']
  have ho : o + 256 ≤ 512 := h 0
  refine Eq.trans (congrArg (View.canon (buf m c t)) ?_) (buf_at m c t ⟨o + r.val, by omega⟩ n R N hR hN)
  funext a
  refine Fin.ext ((Rect.idx_unit_val _ _ _ _ a).trans ?_)
  match a with
  | ⟨0, _⟩ => rfl
  | ⟨1, _⟩ => exact Nat.zero_add _

/-- A value under a silu, scaled. -/
def scaled (x s : EReal) : EReal := x * Ideal.logistic x * s

/-- The scale is chosen by the columns: the first two of the four slabs are queries. -/
theorem pick_scale (j : ℕ) (hj : j < 4) (a b : EReal) :
    Scalar.select (Scalar.cmpi CmpIPredicate.slt (BitVec.ofNat 32 j) 2#32) a b = if j < 2 then a else b :=
  Words.pick_lt j 2 (by omega) (by omega) a b

/-- What a block of the context leaves, of three shifted reads of its rows. -/
theorem pay_B (i : grid0.Coords) (a b d : FVec Ideal S256x512 .f32) (u v w : FVec Ideal S1x512 .f32) (r : Fin 256) (n : Fin 512) :
    k0_pay5 (F := Ideal) i a u b v d w (ix2 r n)
      = scaled (a (ix2 r n) * u (ix2 0 n) + (if 1 ≤ r.val then b (ix2 r n) * v (ix2 0 n) else 0) + if r.val < 255 then d (ix2 r n) * w (ix2 0 n) else 0)
        (if (i 0).val < 2 then Ideal.ofBits .f32 0x3DB504F3#32 else 1) := by
  have hi : (i 0).val < 4 := (i 0).isLt
  have hr := r.isLt
  pointwise [k0_pay5]
  rw [pick_scale _ hi, show (255#32 : BitVec 32) = BitVec.ofNat 32 255 from rfl, show (1#32 : BitVec 32) = BitVec.ofNat 32 1 from rfl,
    Words.pick_ge _ _ (by omega) (by omega), Words.pick_lt _ _ (by omega) (by omega)]
  rfl

/-- What a block of the latent rows leaves, of nine shifted reads of its rows. -/
theorem pay_A (i j : ℕ) (hi : i < 33) (hj : j < 4) (a1 a2 a3 a4 a5 a6 a7 a8 a9 : FVec Ideal S256x512 .f32)
    (u1 u2 u3 u4 u5 u6 u7 u8 u9 : FVec Ideal S1x512 .f32) (r : Fin 256) (n : Fin 512) (g : ℕ) (hg : g = i * 256 + r.val) :
    k0_pay4 (F := Ideal) (k0_pay13 (BitVec.ofNat 32 j) (k0_pay6 (BitVec.ofNat 32 i) (iota Kind.tc S256x512 32 [0] iota_S256x512_d0_w32))
      (k0_pay7 (BitVec.ofNat 32 i) (iota Kind.tc S256x512 32 [0] iota_S256x512_d0_w32))
      (k0_pay11 (k0_pay7 (BitVec.ofNat 32 i) (iota Kind.tc S256x512 32 [0] iota_S256x512_d0_w32))
        (k0_pay8 (BitVec.ofNat 32 i) (iota Kind.tc S256x512 32 [0] iota_S256x512_d0_w32) a1 u1 a2 u2)
        (k0_pay9 (BitVec.ofNat 32 i) (iota Kind.tc S256x512 32 [0] iota_S256x512_d0_w32) a3)
        (k0_pay10 (BitVec.ofNat 32 i) (iota Kind.tc S256x512 32 [0] iota_S256x512_d0_w32)) (FloatOps.ofBits FTy.f32 0#32) u3 a4 u4 a5 u5 a6 u6)
      (k0_pay12 (k0_pay6 (BitVec.ofNat 32 i) (iota Kind.tc S256x512 32 [0] iota_S256x512_d0_w32)) a7) u7 a8 u8 a9 u9) (ix2 r n)
      = scaled ((if 1 ≤ g % 64 then if 64 ≤ g then a1 (ix2 r n) * u1 (ix2 0 n) else 0 else 0) + (if 64 ≤ g then a2 (ix2 r n) * u2 (ix2 0 n) else 0)
          + (if g % 64 < 63 then if 64 ≤ g then a3 (ix2 r n) * u3 (ix2 0 n) else 0 else 0)
          + (if 1 ≤ g % 64 then a4 (ix2 r n) * u4 (ix2 0 n) else 0) + a5 (ix2 r n) * u5 (ix2 0 n)
          + (if g % 64 < 63 then a6 (ix2 r n) * u6 (ix2 0 n) else 0)
          + (if 1 ≤ g % 64 then if g < 8128 then a7 (ix2 r n) * u7 (ix2 0 n) else 0 else 0) + (if g < 8128 then a8 (ix2 r n) * u8 (ix2 0 n) else 0)
          + (if g % 64 < 63 then if g < 8128 then a9 (ix2 r n) * u9 (ix2 0 n) else 0 else 0))
        (if j < 2 then Ideal.ofBits .f32 0x3DB504F3#32 else 1) := by
  have hr := r.isLt
  have hl : g < 8448 := by omega
  pointwise [k0_pay4, k0_pay6, k0_pay7, k0_pay8, k0_pay9, k0_pay10, k0_pay11, k0_pay12, k0_pay13]
  rw [pick_scale j hj, Words.at_row, ← hg, Words.mod_word g (by omega)]
  have e1 := fun a b : EReal => Words.pick_ge (g % 64) 1 (by omega) (by omega) a b
  have e2 := fun a b : EReal => Words.pick_ge g 64 (by omega) (by omega) a b
  have e3 := fun a b : EReal => Words.pick_lt (g % 64) 63 (by omega) (by omega) a b
  have e4 := fun a b : EReal => Words.pick_lt g 8128 (by omega) (by omega) a b
  simp only [e1, e2, e3, e4]
  rfl

/-- A product that is left out where its factor is nothing. -/
theorem masked (q : Prop) [Decidable q] (a u v : EReal) (h : q → a = v) (h' : ¬q → v = 0) : (if q then a * u else 0) = v * u := by
  by_cases hq : q
  · rw [if_pos hq, h hq]
  · rw [if_neg hq, h' hq, zero_mul]

/-- A value under two masks, times a weight, when the masked value is known. -/
theorem masked₂ (p q : Prop) [Decidable p] [Decidable q] (a u v : EReal) (h : p → q → a = v) (h' : ¬(p ∧ q) → v = 0) :
    (if p then if q then a * u else 0 else 0) = v * u := by
  by_cases hp : p
  · rw [if_pos hp]
    exact masked q a u v (h hp) fun hq => h' fun h => hq h.2
  · rw [if_neg hp, h' fun h => hp h.1, zero_mul]

/-- A cell of the grid of latent rows, of 128 rows of 64; cells of zeros lie round it. -/
def cell (p : FVec Ideal S8448x16896 .f32) (n : Fin 2048) (a b : ℕ) : EReal :=
  if h : (1 ≤ a ∧ a - 1 < 128) ∧ 1 ≤ b ∧ b - 1 < 64 then p (ix2 ⟨(a - 1) * 64 + (b - 1), by omega⟩ ⟨n.val, by omega⟩) else 0

/-- A row of the context; a row of zeros lies before the first and after the last. -/
def word (p : FVec Ideal S8448x16896 .f32) (n : Fin 2048) (a : ℕ) : EReal :=
  if h : 1 ≤ a ∧ a - 1 < 256 then p (ix2 ⟨8192 + (a - 1), by omega⟩ ⟨n.val, by omega⟩) else 0

/-- The integer zero reads as zero. -/
theorem int_zero : (FloatOps.sitofp (F := Ideal) .f32 0#32 : EReal) = 0 := by simp [FloatOps.sitofp]

/-- The reference's image with its border, at a place. -/
theorem v2_at (p : FVec Ideal S8448x16896 .f32) (a : Fin 130) (b : Fin 66) (n : Fin 2048) :
    val_main_v2 (F := Ideal) p (ix3 a b n) = cell p n a.val b.val := by
  pointwise [val_main_v2, val_main_v1, val_main_v0, val_main_call0_v0, val_main_c]
  rw [int_zero]
  rfl

/-- The reference's sequence with its border, at a place. -/
theorem v68_at (p : FVec Ideal S8448x16896 .f32) (a : Fin 258) (n : Fin 2048) : val_main_v68 (F := Ideal) p (ix2 a n) = word p n a.val := by
  pointwise [val_main_v68, val_main_v67, val_main_call1_v0, val_main_c_0]
  rw [int_zero]
  rfl

/-- The reference's nine products. -/
theorem lat_at (p : FVec Ideal S8448x16896 .f32) (w : FVec Ideal S3x3x2048 .f32) (a : Fin 128) (b : Fin 64) (n : Fin 2048) :
    val_main_v66 (F := Ideal) p w (ix3 a b n)
      = cell p n a.val b.val * w (ix3 0 0 n) + cell p n a.val (1 + b.val) * w (ix3 0 1 n) + cell p n a.val (2 + b.val) * w (ix3 0 2 n)
        + cell p n (1 + a.val) b.val * w (ix3 1 0 n) + cell p n (1 + a.val) (1 + b.val) * w (ix3 1 1 n) + cell p n (1 + a.val) (2 + b.val) * w (ix3 1 2 n)
        + cell p n (2 + a.val) b.val * w (ix3 2 0 n) + cell p n (2 + a.val) (1 + b.val) * w (ix3 2 1 n) + cell p n (2 + a.val) (2 + b.val) * w (ix3 2 2 n) := by
  pointwise [val_main_v66, val_main_v65, val_main_v64, val_main_v63, val_main_v62, val_main_v61, val_main_v60, val_main_v59, val_main_v58, val_main_v57,
    val_main_v56, val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3]
  simp only [v2_at]
  rw [show (val_main_cst (F := Ideal) ix0 : EReal) = 0 from Ideal.ofBits_zero .f32, zero_add]

/-- The reference's three products along the context. -/
theorem ctx_at (p : FVec Ideal S8448x16896 .f32) (w : FVec Ideal S3x3x2048 .f32) (a : Fin 256) (n : Fin 2048) :
    val_main_v90 (F := Ideal) p w (ix2 a n)
      = word p n a.val * w (ix3 1 0 n) + word p n (1 + a.val) * w (ix3 1 1 n) + word p n (2 + a.val) * w (ix3 1 2 n) := by
  pointwise [val_main_v90, val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v71,
    val_main_v70, val_main_v69]
  simp only [v68_at]
  rw [show (val_main_cst_1 (F := Ideal) ix0 : EReal) = 0 from Ideal.ofBits_zero .f32, zero_add]

/-- The reference's silu and scale. -/
theorem top_at (p : FVec Ideal S8448x16896 .f32) (w : FVec Ideal S3x3x2048 .f32) (R : Fin 8448) (n : Fin 2048) :
    val_main_v99 (F := Ideal) p w (ix2 R n)
      = scaled (val_main_v92 (F := Ideal) p w (ix2 R n)) (if n.val < 1024 then Ideal.ofBits .f32 0x3DB504F3#32 else 1) := by
  pointwise [val_main_v99, val_main_v98, val_main_v97, val_main_v96, val_main_v95, val_main_v94, val_main_v93, val_main_call2_v5, val_main_call2_v4,
    val_main_call2_v3, val_main_call2_v2, val_main_call2_v1, val_main_call2_v0]
  have h1 : ∀ x : EReal, x * Ideal.div (val_main_call2_cst_0 (F := Ideal) ix0) (val_main_call2_cst (F := Ideal) ix0 + Ideal.exp (-x)) = x * Ideal.logistic x :=
    fun x => congrArg (x * ·) (congrArg₂ Ideal.div Ideal.ofBits_one_f32 (congrArg (· + Ideal.exp (-x)) Ideal.ofBits_one_f32))
  by_cases h : n.val < 1024
  · rw [dif_pos h, if_pos h]
    exact congrArg (· * _) (h1 _)
  · rw [dif_neg h, if_neg h]
    have e : (⟨1024 + (n.val - 1024), by omega⟩ : Fin 2048) = n := Fin.ext (by show 1024 + (n.val - 1024) = n.val; omega)
    rw [e]
    exact (h1 _).trans (mul_one _).symm

/-- The reference's rows of the grid lie before its rows of the context. -/
theorem mid_at (p : FVec Ideal S8448x16896 .f32) (w : FVec Ideal S3x3x2048 .f32) (R : Fin 8448) (n : Fin 2048) :
    val_main_v92 (F := Ideal) p w (ix2 R n)
      = if h : R.val < 8192 then val_main_v66 (F := Ideal) p w (ix3 ⟨R.val / 64, by omega⟩ ⟨R.val % 64, by omega⟩ n)
        else val_main_v90 (F := Ideal) p w (ix2 ⟨R.val - 8192, by omega⟩ n) := by
  pointwise [val_main_v92, val_main_v91]

/-- A row of the weights' block is one of the taps. -/
theorem weight (t : Fin cfg0.N) (k : ℕ) (hk : ∀ a, (![k, 0] : Fin 2 → ℕ) a + (![1, 512] : Fin 2 → ℕ) a ≤ S9x512.size a) (a b : Fin 3) (n : Fin 512)
    (N : Fin 2048) (hN : N.val = t.val / 33 * 512 + n.val) (h : k = 3 * a.val + b.val) :
    (View.ld (iblk m c 3 t) (Rect.unit (s := S9x512) ![k, 0] ![1, 512] hk) : FVec Ideal S1x512 .f32) (ix2 0 n) = W m c (ix3 a b N) := by
  have l : k + 1 ≤ 9 := hk 0
  have e : (View.ld (iblk m c 3 t) (Rect.unit (s := S9x512) ![k, 0] ![1, 512] hk) : FVec Ideal S1x512 .f32) (ix2 0 n)
      = (iblk m c 3 t : Vec Ideal S9x512 .f32) (ix2 ⟨k, by omega⟩ n) := by
    refine congrArg (iblk m c 3 t : Vec Ideal S9x512 .f32) ?_
    funext a
    refine Fin.ext ((Rect.idx_unit_val _ _ _ _ a).trans ?_)
    match a with
    | ⟨0, _⟩ => rfl
    | ⟨1, _⟩ => exact Nat.zero_add _
  exact e.trans (w_read m c t _ a b n N hN h)

/-- A read of the buffer at a cell of the grid. -/
theorem tap_cell (t : Fin cfg0.N) (o : ℕ) (h : ∀ a, (![o, 0] : Fin 2 → ℕ) a + (![256, 512] : Fin 2 → ℕ) a ≤ S512x512.size a) (r : Fin 256)
    (n : Fin 512) (N : Fin 2048) (hN : N.val = t.val / 33 * 512 + n.val) (a b : ℕ) (ha : 1 ≤ a ∧ a - 1 < 128) (hb : 1 ≤ b ∧ b - 1 < 64)
    (hR : (a - 1) * 64 + (b - 1) + 128 = t.val % 33 * 256 + (o + r.val)) :
    ((View.whole cc0_scratch0).readCov (buf m c t) (Rect.unit (s := S512x512) ![o, 0] ![256, 512] h).toLoadRect : FVec Ideal S256x512 .f32) (ix2 r n)
      = cell (P m c) N a b := by
  unfold cell
  rw [dif_pos ⟨ha, hb⟩]
  exact tap_at m c t o h r n ⟨(a - 1) * 64 + (b - 1), by omega⟩ ⟨N.val, by omega⟩ hR hN

/-- A read of the buffer at a row of the context. -/
theorem tap_word (t : Fin cfg0.N) (o : ℕ) (h : ∀ a, (![o, 0] : Fin 2 → ℕ) a + (![256, 512] : Fin 2 → ℕ) a ≤ S512x512.size a) (r : Fin 256)
    (n : Fin 512) (N : Fin 2048) (hN : N.val = t.val / 33 * 512 + n.val) (a : ℕ) (ha : 1 ≤ a ∧ a - 1 < 256)
    (hR : 8192 + (a - 1) + 128 = t.val % 33 * 256 + (o + r.val)) :
    ((View.whole cc0_scratch0).readCov (buf m c t) (Rect.unit (s := S512x512) ![o, 0] ![256, 512] h).toLoadRect : FVec Ideal S256x512 .f32) (ix2 r n)
      = word (P m c) N a := by
  unfold word
  rw [dif_pos ha]
  exact tap_at m c t o h r n ⟨8192 + (a - 1), by omega⟩ ⟨N.val, by omega⟩ hR hN

/-- The nine products, left out where the grid ends. -/
theorem nine (p : FVec Ideal S8448x16896 .f32) (N : Fin 2048) (g : ℕ) (hg : g < 8192) (w : Fin 3 → Fin 3 → EReal)
    (a1 a2 a3 a4 a5 a6 a7 a8 a9 : EReal)
    (h1 : 1 ≤ g % 64 → 64 ≤ g → a1 = cell p N (g / 64) (g % 64)) (h2 : 64 ≤ g → a2 = cell p N (g / 64) (1 + g % 64))
    (h3 : g % 64 < 63 → 64 ≤ g → a3 = cell p N (g / 64) (2 + g % 64)) (h4 : 1 ≤ g % 64 → a4 = cell p N (1 + g / 64) (g % 64))
    (h5 : a5 = cell p N (1 + g / 64) (1 + g % 64)) (h6 : g % 64 < 63 → a6 = cell p N (1 + g / 64) (2 + g % 64))
    (h7 : 1 ≤ g % 64 → g < 8128 → a7 = cell p N (2 + g / 64) (g % 64)) (h8 : g < 8128 → a8 = cell p N (2 + g / 64) (1 + g % 64))
    (h9 : g % 64 < 63 → g < 8128 → a9 = cell p N (2 + g / 64) (2 + g % 64)) :
    (if 1 ≤ g % 64 then if 64 ≤ g then a1 * w 0 0 else 0 else 0) + (if 64 ≤ g then a2 * w 0 1 else 0)
        + (if g % 64 < 63 then if 64 ≤ g then a3 * w 0 2 else 0 else 0) + (if 1 ≤ g % 64 then a4 * w 1 0 else 0) + a5 * w 1 1
        + (if g % 64 < 63 then a6 * w 1 2 else 0) + (if 1 ≤ g % 64 then if g < 8128 then a7 * w 2 0 else 0 else 0)
        + (if g < 8128 then a8 * w 2 1 else 0) + (if g % 64 < 63 then if g < 8128 then a9 * w 2 2 else 0 else 0)
      = cell p N (g / 64) (g % 64) * w 0 0 + cell p N (g / 64) (1 + g % 64) * w 0 1 + cell p N (g / 64) (2 + g % 64) * w 0 2
        + cell p N (1 + g / 64) (g % 64) * w 1 0 + cell p N (1 + g / 64) (1 + g % 64) * w 1 1 + cell p N (1 + g / 64) (2 + g % 64) * w 1 2
        + cell p N (2 + g / 64) (g % 64) * w 2 0 + cell p N (2 + g / 64) (1 + g % 64) * w 2 1 + cell p N (2 + g / 64) (2 + g % 64) * w 2 2 := by
  rw [masked₂ _ _ a1 _ _ h1 fun h => dif_neg (by omega), masked _ a2 _ _ h2 fun h => dif_neg (by omega),
    masked₂ _ _ a3 _ _ h3 fun h => dif_neg (by omega), masked _ a4 _ _ h4 fun h => dif_neg (by omega), h5,
    masked _ a6 _ _ h6 fun h => dif_neg (by omega), masked₂ _ _ a7 _ _ h7 fun h => dif_neg (by omega),
    masked _ a8 _ _ h8 fun h => dif_neg (by omega), masked₂ _ _ a9 _ _ h9 fun h => dif_neg (by omega)]

/-- The three products along the context, left out at its ends. -/
theorem three (p : FVec Ideal S8448x16896 .f32) (N : Fin 2048) (r : ℕ) (hr : r < 256) (u v w a b d : EReal) (ha : a = word p N (1 + r))
    (hb : 1 ≤ r → b = word p N r) (hd : r < 255 → d = word p N (2 + r)) :
    a * u + (if 1 ≤ r then b * v else 0) + (if r < 255 then d * w else 0) = word p N r * v + word p N (1 + r) * u + word p N (2 + r) * w := by
  rw [masked _ b v _ hb fun h => dif_neg (by omega), masked _ d w _ hd fun h => dif_neg (by omega), ha, add_comm (word p N (1 + r) * u)]

/-- A block of the context's rows is the reference's. -/
theorem out_B (t : Fin cfg0.N) (h0 : ¬t.val % 33 ≤ 31) (h1 : t.val % 33 = 32) (r : Fin 256) (n : Fin 512) (R : Fin 8448) (N : Fin 2048)
    (hR : R.val = t.val % 33 * 256 + r.val) (hN : N.val = t.val / 33 * 512 + n.val) :
    (outsAt0 m c t.val t.isLt : Vec Ideal S256x512 .bf16) (ix2 r n) = val_main_v99 (F := Ideal) (P m c) (W m c) (ix2 R N) := by
  have hr := r.isLt
  have hn := n.isLt
  rw [outsAt0_B m c t h0 h1]
  frame_out
  refine (pay_B _ _ _ _ _ _ _ r n).trans (Eq.trans ?_ (top_at _ _ R N).symm)
  rw [mid_at, dif_neg (by omega), ctx_at]
  have hj : (grid0.coords t 0).val = t.val / 33 := (idx t).2.2.2.2.2.2
  have er : R.val - 8192 = r.val := by omega
  refine congrArg₂ scaled ?_ ?_
  · dsimp only
    rw [er, weight m c t 3 _ 1 0 n N hN rfl, weight m c t 4 _ 1 1 n N hN rfl, weight m c t 5 _ 1 2 n N hN rfl]
    exact three _ _ r.val hr _ _ _ _ _ _ (tap_word m c t 128 _ r n N hN _ (by omega) (by omega))
      (fun h => tap_word m c t 127 _ r n N hN _ (by omega) (by omega)) (fun h => tap_word m c t 129 _ r n N hN _ (by omega) (by omega))
  · rw [hj]
    exact if_congr (by omega) rfl rfl

/-- A block of the latent rows is the reference's. -/
theorem out_A (t : Fin cfg0.N) (h0 : t.val % 33 ≤ 31) (h1 : ¬t.val % 33 = 32) (r : Fin 256) (n : Fin 512) (R : Fin 8448) (N : Fin 2048)
    (hR : R.val = t.val % 33 * 256 + r.val) (hN : N.val = t.val / 33 * 512 + n.val) :
    (outsAt0 m c t.val t.isLt : Vec Ideal S256x512 .bf16) (ix2 r n) = val_main_v99 (F := Ideal) (P m c) (W m c) (ix2 R N) := by
  have hr := r.isLt
  have hn := n.isLt
  have hi : (grid0.coords t 1).val = t.val % 33 := (idx t).2.2.2.2.2.1
  have hj : (grid0.coords t 0).val = t.val / 33 := (idx t).2.2.2.2.2.2
  have hl : t.val < 132 := t.isLt
  rw [outsAt0_A m c t h0 h1]
  frame_out
  refine (pay_A _ _ (by omega) (by omega) _ _ _ _ _ _ _ _ _ _ _ _ _ _ _ _ _ _ r n R.val (by omega)).trans (Eq.trans ?_ (top_at _ _ R N).symm)
  rw [mid_at, dif_pos (by omega), lat_at]
  refine congrArg₂ scaled ?_ ?_
  · dsimp only
    rw [weight m c t 0 _ 0 0 n N hN rfl, weight m c t 1 _ 0 1 n N hN rfl, weight m c t 2 _ 0 2 n N hN rfl, weight m c t 3 _ 1 0 n N hN rfl,
      weight m c t 4 _ 1 1 n N hN rfl, weight m c t 5 _ 1 2 n N hN rfl, weight m c t 6 _ 2 0 n N hN rfl, weight m c t 7 _ 2 1 n N hN rfl,
      weight m c t 8 _ 2 2 n N hN rfl]
    exact nine (P m c) N R.val (by omega) (fun a b => W m c (ix3 a b N)) _ _ _ _ _ _ _ _ _
      (fun _ _ => tap_cell m c t 63 _ r n N hN _ _ (by omega) (by omega) (by omega))
      (fun _ => tap_cell m c t 64 _ r n N hN _ _ (by omega) (by omega) (by omega))
      (fun _ _ => tap_cell m c t 65 _ r n N hN _ _ (by omega) (by omega) (by omega))
      (fun _ => tap_cell m c t 127 _ r n N hN _ _ (by omega) (by omega) (by omega))
      (tap_cell m c t 128 _ r n N hN _ _ (by omega) (by omega) (by omega))
      (fun _ => tap_cell m c t 129 _ r n N hN _ _ (by omega) (by omega) (by omega))
      (fun _ _ => tap_cell m c t 191 _ r n N hN _ _ (by omega) (by omega) (by omega))
      (fun _ => tap_cell m c t 192 _ r n N hN _ _ (by omega) (by omega) (by omega))
      (fun _ _ => tap_cell m c t 193 _ r n N hN _ _ (by omega) (by omega) (by omega))
  · rw [hj]
    exact if_congr (by omega) rfl rfl

/-- The kernel's array after the grid is the reference's result. -/
theorem final : (dats m 0 c).arrAt 4 (cfgs 0).N = val_main_v99 (F := Ideal) (P m c) (W m c) := by
  refine (dats m 0 c).arrAt_eq_of_covers 4 _ (by decide +kernel) fun t _ y => ?_
  blk_simp
  rw [after0_4]
  have hl : t.val < 132 := t.isLt
  idx_vars y
  have e := (idx t).2.2.2.2.1
  have i0 : ((((cfg0.win 4).blk t).view.emb (ix2 y0 y1)) 0).val = t.val % 33 * 256 + y0.val := by blk_simp [e]
  have i1 : ((((cfg0.win 4).blk t).view.emb (ix2 y0 y1)) 1).val = t.val / 33 * 512 + y1.val := by blk_simp [e]
  generalize ((cfg0.win 4).blk t).view.emb (ix2 y0 y1) = z at i0 i1 ⊢
  idx_vars z
  by_cases h : t.val % 33 = 32
  · exact out_B m c t (by omega) h y0 y1 z0 z1 i0 i1
  · exact out_A m c t (by omega) h y0 y1 z0 z1 i0 i1

end Cert.Conv

end
-- ==== Proof.Seq.lean ====
/-
  The convolution along the latent rows: every block of the kernel's result is the reference's rows at the block's place.
-/
module

public import proofs.«01_k».proof.Proof.Gen.SeqKernelIdeal.Value
public import proofs.«01_k».proof.Proof.Gen.SeqReferenceIdeal.Read
public import proofs.«01_k».proof.Proof.Words
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Seq

open Idealize.ShloMosaic Idealize.ShloMosaic.TcCoe Idealize.SL.Sem Cert.SeqKernelIdeal Cert.SeqKernelIdeal.Gen
open Cert.SeqReferenceIdeal.Read

variable (m : (ℓ : Loc nD τ sig) → Buf (Elt Ideal) ℓ) (c : Dev nD)

/-- The rows, of whose columns 6144 are the convolution's. -/
abbrev P : FVec Ideal S8448x16896 .f32 := m ((c : Thread nD τ).loc main_arg0)
/-- The three taps of every column. -/
abbrev W : FVec Ideal S3x6144 .f32 := m ((c : Thread nD τ).loc main_arg1)

/-- Which blocks a grid point reads and writes. -/
theorem idx : ∀ t : Fin cfg0.N,
    win0_0.index t = ![t.val % 32 * 32 - 1, t.val / 32 + 6] ∧ win0_1.index t = ![t.val % 32, t.val / 32 + 6]
    ∧ win0_2.index t = ![(t.val % 32 + 1) * 32, t.val / 32 + 6] ∧ win0_3.index t = ![0, t.val / 32]
    ∧ win0_4.index t = ![t.val % 32, t.val / 32] ∧ (grid0.coords t 1).val = t.val % 32 :=
  (by decide +kernel : ∀ t : Fin grid0.N, _)

/-- The rows before the point's own: the last of the eight is the row before its first. -/
theorem prev_read (t : Fin cfg0.N) (r : Fin 8) (n : Fin 1024) (R : Fin 8448) (N : Fin 16896) (hR : R.val = (t.val % 32 * 32 - 1) * 8 + r.val)
    (hN : N.val = (t.val / 32 + 6) * 1024 + n.val) : (X0_0 m c t : Vec Ideal S8x1024 .f32) (ix2 r n) = P m c (ix2 R N) := by
  unfold X0_0 Pipeline.Window.fill
  rw [dif_pos (moved0_0 t _)]
  blk_ext [iblk, V, idx t]

/-- The point's own rows. -/
theorem cur_read (t : Fin cfg0.N) (r : Fin 256) (n : Fin 1024) (R : Fin 8448) (N : Fin 16896) (hR : R.val = t.val % 32 * 256 + r.val)
    (hN : N.val = (t.val / 32 + 6) * 1024 + n.val) : (X0_1 m c t : Vec Ideal S256x1024 .f32) (ix2 r n) = P m c (ix2 R N) := by
  unfold X0_1 Pipeline.Window.fill
  rw [dif_pos (moved0_1 t _)]
  blk_ext [iblk, V, idx t]

/-- The rows after the point's own. -/
theorem next_read (t : Fin cfg0.N) (r : Fin 8) (n : Fin 1024) (R : Fin 8448) (N : Fin 16896) (hR : R.val = (t.val % 32 + 1) * 256 + r.val)
    (hN : N.val = (t.val / 32 + 6) * 1024 + n.val) : (X0_2 m c t : Vec Ideal S8x1024 .f32) (ix2 r n) = P m c (ix2 R N) := by
  unfold X0_2 Pipeline.Window.fill
  rw [dif_pos (moved0_2 t _)]
  blk_ext [iblk, V, idx t]

/-- The taps. -/
theorem w_read (t : Fin cfg0.N) (k : Fin 3) (n : Fin 1024) (N : Fin 6144) (hN : N.val = t.val / 32 * 1024 + n.val) :
    (iblk m c 3 t : Vec Ideal S3x1024 .f32) (ix2 k n) = W m c (ix2 k N) := by
  blk_ext [iblk, V, idx t]

/-- Row `R` of the latent rows' column `N`; a row of zeros lies before the first and after the last. -/
def row (p : FVec Ideal S8448x16896 .f32) (N : Fin 16896) (i : ℕ) : EReal :=
  if h : 1 ≤ i ∧ i - 1 < 8192 then p (ix2 ⟨i - 1, by omega⟩ N) else 0

/-- The reference's result at an index: three taps, none before the first row or behind the last. -/
theorem ref_at (p : FVec Ideal S8448x16896 .f32) (w : FVec Ideal S3x6144 .f32) (r : Fin 8192) (n : Fin 6144) :
    val_main_v21 (F := Ideal) p w (ix2 r n)
      = row p ⟨6144 + n.val, by omega⟩ r.val * w (ix2 0 n) + row p ⟨6144 + n.val, by omega⟩ (1 + r.val) * w (ix2 1 n)
        + row p ⟨6144 + n.val, by omega⟩ (2 + r.val) * w (ix2 2 n) := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_call0_v0, val_main_c]
  have h0 : (FloatOps.sitofp (F := Ideal) .f32 0#32 : EReal) = 0 := by simp [FloatOps.sitofp]
  have h1 : row p ⟨6144 + n.val, by omega⟩ (1 + r.val) = p (ix2 ⟨r.val, by omega⟩ ⟨6144 + n.val, by omega⟩) := by
    unfold row
    rw [dif_pos (by omega)]
    exact congrArg (fun a => p (ix2 a _)) (Fin.ext (by show 1 + r.val - 1 = r.val; omega))
  rw [h0, h1]
  rfl

/-- The rows the scratch buffer holds: the point's own, eight before and eight after. -/
abbrev buf (t : Fin cfg0.N) : List (View.Piece (Elt Ideal) S272x1024 .f32) :=
  [⟨Rect.unit ![264, 0] ![8, 1024] inb_S272x1024_S8x1024_264_0, k0_pay4 (X0_2 m c t)⟩,
    ⟨Rect.unit ![8, 0] ![256, 1024] inb_S272x1024_S256x1024_8_0, k0_pay3 (X0_1 m c t)⟩,
    ⟨Rect.unit ![0, 0] ![8, 1024] inb_S272x1024_S8x1024_0_0, k0_pay2 (X0_0 m c t)⟩]

/-- The buffer holds the block's rows with 8 rows before and behind them. -/
theorem buf_at (t : Fin cfg0.N) (q : Fin 272) (n : Fin 1024) (R : Fin 8448) (N : Fin 16896) (hR : R.val + 8 = t.val % 32 * 256 + q.val)
    (hN : N.val = (t.val / 32 + 6) * 1024 + n.val) : View.canon (buf m c t) (ix2 q n) = P m c (ix2 R N) := by
  canon_tiles x hx using View.cover_of_tiledBy (buf m c t) ![8, 1024] (by sl_kernel_rfl) _
  all_goals open_payloads
  all_goals idx_vars x
  all_goals pointwise
  · exact next_read m c t _ _ R N (by omega) (by omega)
  · exact cur_read m c t _ _ R N (by omega) (by omega)
  · exact prev_read m c t _ _ R N (by omega) (by omega)

/-- What the kernel leaves at an index, of three shifted reads of its rows. -/
theorem pay_at (i : grid0.Coords) (a b d : FVec Ideal S256x1024 .f32) (u v w : FVec Ideal S1x1024 .f32) (r : Fin 256) (n : Fin 1024) :
    k0_pay1 (F := Ideal) (k0_pay6 i a u b v) (k0_pay7 i) d w (ix2 r n)
      = a (ix2 r n) * u (ix2 0 n) + (if 1 ≤ (i 1).val * 256 + r.val then b (ix2 r n) * v (ix2 0 n) else 0)
        + if (i 1).val * 256 + r.val < 8191 then d (ix2 r n) * w (ix2 0 n) else 0 := by
  have hi : (i 1).val < 32 := (i 1).isLt
  pointwise [k0_pay1, k0_pay5, k0_pay6, k0_pay7]
  rw [Words.at_row, show (8191#32 : BitVec 32) = BitVec.ofNat 32 8191 from rfl, show (1#32 : BitVec 32) = BitVec.ofNat 32 1 from rfl,
    Words.pick_ge _ _ (by omega) (by omega), Words.pick_lt _ _ (by omega) (by omega)]

/-- The buffer read from row `o` on. -/
theorem tap_at (t : Fin cfg0.N) (o : ℕ) (h : ∀ a, (![o, 0] : Fin 2 → ℕ) a + (![256, 1024] : Fin 2 → ℕ) a ≤ S272x1024.size a) (r : Fin 256) (n : Fin 1024) (R : Fin 8448) (N : Fin 16896)
    (hR : R.val + 8 = t.val % 32 * 256 + (o + r.val)) (hN : N.val = (t.val / 32 + 6) * 1024 + n.val) :
    ((View.whole cc0_scratch0).readCov (buf m c t) (Rect.unit (s := S272x1024) ![o, 0] ![256, 1024] h).toLoadRect : FVec Ideal S256x1024 .f32) (ix2 r n) = P m c (ix2 R N) := by
  rw [View.readCov_eq_canon']
  have ho : o + 256 ≤ 272 := h 0
  refine Eq.trans (congrArg (View.canon (buf m c t)) ?_) (buf_at m c t ⟨o + r.val, by omega⟩ n R N hR hN)
  funext a
  refine Fin.ext ((Rect.idx_unit_val _ _ _ _ a).trans ?_)
  match a with
  | ⟨0, _⟩ => rfl
  | ⟨1, _⟩ => exact Nat.zero_add _

/-- The buffer's read at a row of the reference's, which has a row of zeros at either end. -/
theorem tap_row (t : Fin cfg0.N) (o : ℕ) (h : ∀ a, (![o, 0] : Fin 2 → ℕ) a + (![256, 1024] : Fin 2 → ℕ) a ≤ S272x1024.size a) (r : Fin 256)
    (n : Fin 1024) (k : ℕ) (N : Fin 16896) (h1 : 1 ≤ k) (h2 : k - 1 < 8192) (hR : k + 7 = t.val % 32 * 256 + (o + r.val))
    (hN : N.val = (t.val / 32 + 6) * 1024 + n.val) :
    ((View.whole cc0_scratch0).readCov (buf m c t) (Rect.unit (s := S272x1024) ![o, 0] ![256, 1024] h).toLoadRect : FVec Ideal S256x1024 .f32) (ix2 r n)
      = row (P m c) N k := by
  unfold row
  rw [dif_pos ⟨h1, h2⟩]
  exact tap_at m c t o h r n ⟨k - 1, by omega⟩ N (by show k - 1 + 8 = _; omega) hN

/-- A product that is left out where its factor is nothing. -/
theorem masked (q : Prop) [Decidable q] (a u v : EReal) (h : q → a = v) (h' : ¬q → v = 0) : (if q then a * u else 0) = v * u := by
  by_cases hq : q
  · rw [if_pos hq, h hq]
  · rw [if_neg hq, h' hq, zero_mul]

/-- The three products in either order. -/
theorem combine (p : FVec Ideal S8448x16896 .f32) (N : Fin 16896) (R : ℕ) (hR : R < 8192) (a b d u v w : EReal) (ha : a = row p N (1 + R))
    (hb : 1 ≤ R → b = row p N R) (hd : R < 8191 → d = row p N (2 + R)) :
    a * u + (if 1 ≤ R then b * v else 0) + (if R < 8191 then d * w else 0)
      = row p N R * v + row p N (1 + R) * u + row p N (2 + R) * w := by
  rw [masked _ b v _ hb fun h => dif_neg (by omega), masked _ d w _ hd fun h => dif_neg (by omega), ha, add_comm (row p N (1 + R) * u)]

/-- What the kernel leaves at an index is the reference's entry at the index's place. -/
theorem out_at (t : Fin cfg0.N) (r : Fin 256) (n : Fin 1024) (R : Fin 8192) (N : Fin 6144) (hR : R.val = t.val % 32 * 256 + r.val)
    (hN : N.val = t.val / 32 * 1024 + n.val) :
    (outsAt0 m c t : Vec Ideal S256x1024 .f32) (ix2 r n) = val_main_v21 (F := Ideal) (P m c) (W m c) (ix2 R N) := by
  unfold outsAt0
  frame_out
  refine (pay_at _ _ _ _ _ _ _ r n).trans (Eq.trans ?_ (ref_at _ _ R N).symm)
  have hi : (grid0.coords t 1).val = t.val % 32 := (idx t).2.2.2.2.2
  rw [hi, ← hR]
  have w0 : View.ld (iblk m c 3 t) (Rect.unit ![0, 0] ![1, 1024] inb_S3x1024_S1x1024_0_0) (ix2 0 n) = W m c (ix2 0 N) := by
    pointwise
    exact w_read m c t 0 n N hN
  have w1 : View.ld (iblk m c 3 t) (Rect.unit ![1, 0] ![1, 1024] inb_S3x1024_S1x1024_1_0) (ix2 0 n) = W m c (ix2 1 N) := by
    pointwise
    exact w_read m c t 1 n N hN
  have w2 : View.ld (iblk m c 3 t) (Rect.unit ![2, 0] ![1, 1024] inb_S3x1024_S1x1024_2_0) (ix2 0 n) = W m c (ix2 2 N) := by
    pointwise
    exact w_read m c t 2 n N hN
  have l : R.val < 8192 := R.isLt
  have lN : N.val < 6144 := N.isLt
  rw [w0, w1, w2]
  have eN : ((⟨6144 + N.val, by omega⟩ : Fin 16896) : Fin 16896).val = (t.val / 32 + 6) * 1024 + n.val := by
    show 6144 + N.val = _
    omega
  exact combine _ _ R.val l _ _ _ _ _ _ (tap_row m c t 8 _ r n _ _ (by omega) (by omega) (by omega) eN)
    (fun h => tap_row m c t 7 _ r n _ _ (by omega) (by omega) (by omega) eN) (fun h => tap_row m c t 9 _ r n _ _ (by omega) (by omega) (by omega) eN)

/-- The kernel's array after the grid is the reference's result. -/
theorem final : (dats m 0 c).arrAt 4 (cfgs 0).N = val_main_v21 (F := Ideal) (P m c) (W m c) := by
  refine (dats m 0 c).arrAt_eq_of_covers 4 _ (by decide +kernel) fun t _ y => ?_
  blk_simp
  rw [after0_4]
  have hl : t.val < 192 := t.isLt
  idx_vars y
  have i0 : ((((cfg0.win 4).blk t).view.emb (ix2 y0 y1)) 0).val = t.val % 32 * 256 + y0.val := by blk_simp [idx t]
  have i1 : ((((cfg0.win 4).blk t).view.emb (ix2 y0 y1)) 1).val = t.val / 32 * 1024 + y1.val := by blk_simp [idx t]
  generalize ((cfg0.win 4).blk t).view.emb (ix2 y0 y1) = z at i0 i1 ⊢
  idx_vars z
  exact out_at m c t y0 y1 z0 z1 i0 i1

end Cert.Seq

end
-- ==== Proof.Head.lean ====
/-
  The norm and gate of the mLSTM's output: every block of the kernel's result is the reference's rows at the block's place.
-/
module

public import proofs.«01_k».proof.Proof.Gen.HeadKernelIdeal.Value
public import proofs.«01_k».proof.Proof.Gen.HeadReferenceIdeal.Read
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Head

open Idealize.ShloMosaic Idealize.ShloMosaic.TcCoe Idealize.SL.Sem Cert.HeadKernelIdeal Cert.HeadKernelIdeal.Gen
open Cert.HeadReferenceIdeal.Read

variable (m : (ℓ : Loc nD τ sig) → Buf (Elt Ideal) ℓ) (c : Dev nD)

/-- The rows of both directions. -/
abbrev H : FVec Ideal S2x8448x2048 .f32 := m ((c : Thread nD τ).loc main_arg0)
/-- The mixer's inputs, of whose columns the output gates are 2048. -/
abbrev P : FVec Ideal S8448x16896 .f32 := m ((c : Thread nD τ).loc main_arg1)
/-- The norm's gain. -/
abbrev G : FVec Ideal S2048 .f32 := m ((c : Thread nD τ).loc main_arg2)

/-- Which blocks a grid point reads and writes. -/
theorem idx : ∀ t : Fin cfg0.N,
    win0_0.index t = ![0, t.val, 0] ∧ win0_1.index t = ![1, t.val, 0] ∧ win0_2.index t = ![t.val, 2] ∧ win0_3.index t = ![0, 0]
    ∧ win0_4.index t = ![t.val, 0] :=
  (by decide +kernel : ∀ t : Fin grid0.N, _)

/-- An entry of the forward direction's block is one of the array's. -/
theorem f_read (t : Fin cfg0.N) (r : Fin 256) (n : Fin 2048) (R : Fin 8448) (hR : R.val = t.val * 256 + r.val) :
    (iblk m c 0 t : Vec Ideal S1x256x2048 .f32) (ix3 0 r n) = H m c (ix3 0 R n) := by
  blk_ext [iblk, V, idx t]

/-- An entry of the backward direction's block is one of the array's. -/
theorem b_read (t : Fin cfg0.N) (r : Fin 256) (n : Fin 2048) (R : Fin 8448) (hR : R.val = t.val * 256 + r.val) :
    (iblk m c 1 t : Vec Ideal S1x256x2048 .f32) (ix3 0 r n) = H m c (ix3 1 R n) := by
  blk_ext [iblk, V, idx t]

/-- An entry of the gate's block is one of the array's. -/
theorem o_read (t : Fin cfg0.N) (r : Fin 256) (n : Fin 2048) (R : Fin 8448) (N : Fin 16896) (hR : R.val = t.val * 256 + r.val)
    (hN : N.val = 4096 + n.val) : (X0_2 m c t : Vec Ideal S256x2048 .f32) (ix2 r n) = P m c (ix2 R N) := by
  unfold X0_2 Pipeline.Window.fill
  rw [dif_pos (moved0_2 t _)]
  blk_ext [iblk, V, idx t]

/-- The gain a point reads is the argument. -/
theorem g_read (t : Fin cfg0.N) (n : Fin 2048) :
    (iblk m c 3 t : Vec Ideal S1x2048 .f32) (ix2 0 n) = G m c (ix1 n) := by
  blk_simp [iblk, idx t]
  entry_read
  pointwise
  blk_ext [idx t]

/-- An entry of a head's normed row, with a gain and a gate. -/
def gated (f : Fin 256 → EReal) (x g o : EReal) : EReal :=
  x * Ideal.rsqrt (Ideal.div (∑ k, f k * f k) (Ideal.ofBits .f32 0x43800000#32) + Ideal.ofBits .f32 0x358637BD#32) * g * Ideal.logistic o

/-- The two directions' sum. -/
def both (h : FVec Ideal S2x8448x2048 .f32) (R : Fin 8448) (n : Fin 2048) : EReal := h (ix3 0 R n) + h (ix3 1 R n)

/-- The reference at an index. -/
theorem ref_at (h : FVec Ideal S2x8448x2048 .f32) (p : FVec Ideal S8448x16896 .f32) (g : FVec Ideal S2048 .f32) (r : Fin 8192) (n : Fin 2048) :
    val_main_v28 (F := Ideal) h p g (ix2 r n)
      = gated (fun k => both h ⟨r.val, by omega⟩ ⟨n.val / 256 * 256 + k.val, by omega⟩) (both h ⟨r.val, by omega⟩ n) (g (ix1 n))
        (p (ix2 ⟨r.val, by omega⟩ ⟨4096 + n.val, by omega⟩)) := by
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, gated, both]
  refine congrArg₂ (· * ·) (congrArg₂ (· * ·) (congrArg₂ (· * ·) rfl (congrArg Ideal.rsqrt (congrArg₂ (· + ·)
    (congrArg₂ Ideal.div ?_ rfl) rfl))) rfl) ?_
  · exact (congrArg₂ (· + ·) (Ideal.ofBits_zero .f32) rfl).trans (zero_add _)
  · exact congrArg₂ Ideal.div Ideal.ofBits_one_f32 (congrArg₂ (· + ·) Ideal.ofBits_one_f32 rfl)

/-- The rows of one direction at the point. -/
abbrev I0 (t : Fin cfg0.N) : FVec Ideal S1x256x2048 .f32 := iblk m c 0 t
/-- The rows of the other direction. -/
abbrev I1 (t : Fin cfg0.N) : FVec Ideal S1x256x2048 .f32 := iblk m c 1 t
/-- The gates. -/
abbrev I2 (t : Fin cfg0.N) : FVec Ideal S256x2048 .f32 := X0_2 m c t
/-- The gain. -/
abbrev I3 (t : Fin cfg0.N) : FVec Ideal S1x2048 .f32 := iblk m c 3 t

/-- What a store of one head leaves, its head's columns beginning at `o`. -/
theorem piece_at (t : Fin cfg0.N) (r : Fin 256) (n : Fin 2048) (R : Fin 8448) (hR : R.val = t.val * 256 + r.val) (o : Fin 256 → Fin 2048)
    (x : Fin 256) (q : ℕ) (ho : ∀ k, (o k).val = q * 256 + k.val) (hn : n.val = q * 256 + x.val) :
    gated (fun k => I0 m c t (ix3 0 r (o k)) + I1 m c t (ix3 0 r (o k))) (I0 m c t (ix3 0 r (o x)) + I1 m c t (ix3 0 r (o x)))
        (I3 m c t (ix2 0 (o x))) (I2 m c t (ix2 r (o x)))
      = gated (fun k => both (H m c) R ⟨n.val / 256 * 256 + k.val, by omega⟩) (both (H m c) R n) (G m c (ix1 n))
        (P m c (ix2 R ⟨4096 + n.val, by omega⟩)) := by
  have hox : o x = n := Fin.ext ((ho x).trans hn.symm)
  have hok : ∀ k : Fin 256, (⟨n.val / 256 * 256 + k.val, by omega⟩ : Fin 2048) = o k := by
    intro k
    refine Fin.ext ?_
    have h1 := ho k
    show n.val / 256 * 256 + k.val = (o k).val
    omega
  simp only [hok, both]
  rw [hox, show I2 m c t (ix2 r n) = _ from o_read m c t r n R ⟨4096 + n.val, by omega⟩ hR rfl, show I3 m c t (ix2 0 n) = _ from g_read m c t n]
  have hf : ∀ k, I0 m c t (ix3 0 r k) = H m c (ix3 0 R k) := fun k => f_read m c t r k R hR
  have hb : ∀ k, I1 m c t (ix3 0 r k) = H m c (ix3 1 R k) := fun k => b_read m c t r k R hR
  simp only [hf, hb]

/-- What a point writes, at an index: the head's norm with its gain and gate. -/
theorem out_at (t : Fin cfg0.N) (r : Fin 256) (n : Fin 2048) (R : Fin 8448) (hR : R.val = t.val * 256 + r.val) :
    (outsAt0 m c t : Vec Ideal S256x2048 .bf16) (ix2 r n)
      = gated (fun k => both (H m c) R ⟨n.val / 256 * 256 + k.val, by omega⟩) (both (H m c) R n) (G m c (ix1 n))
        (P m c (ix2 R ⟨4096 + n.val, by omega⟩)) := by
  unfold outsAt0
  frame_out
  canon_tiles x hx
  all_goals open_payloads
  all_goals idx_vars x
  all_goals pointwise
  all_goals obtain rfl : r = x0 := Fin.ext hx0
  · exact piece_at m c t r n R hR (fun k => ⟨1792 + k.val, by omega⟩) x1 7 (fun _ => rfl) hx1
  · exact piece_at m c t r n R hR (fun k => ⟨1536 + k.val, by omega⟩) x1 6 (fun _ => rfl) hx1
  · exact piece_at m c t r n R hR (fun k => ⟨1280 + k.val, by omega⟩) x1 5 (fun _ => rfl) hx1
  · exact piece_at m c t r n R hR (fun k => ⟨1024 + k.val, by omega⟩) x1 4 (fun _ => rfl) hx1
  · exact piece_at m c t r n R hR (fun k => ⟨768 + k.val, by omega⟩) x1 3 (fun _ => rfl) hx1
  · exact piece_at m c t r n R hR (fun k => ⟨512 + k.val, by omega⟩) x1 2 (fun _ => rfl) hx1
  · exact piece_at m c t r n R hR (fun k => ⟨256 + k.val, by omega⟩) x1 1 (fun _ => rfl) hx1
  · exact piece_at m c t r n R hR (fun k => ⟨k.val, by omega⟩) x1 0 (fun k => by dsimp only; omega) (by omega)

/-- The kernel's array after the grid is the reference's result. -/
theorem final : (dats m 0 c).arrAt 4 (cfgs 0).N = val_main_v28 (F := Ideal) (H m c) (P m c) (G m c) := by
  refine (dats m 0 c).arrAt_eq_of_covers 4 _ (by decide +kernel) fun t _ y => ?_
  blk_simp
  rw [after0_4]
  have hl : t.val < 32 := t.isLt
  idx_vars y
  have i0 : ((((cfg0.win 4).blk t).view.emb (ix2 y0 y1)) 0).val = t.val * 256 + y0.val := by blk_simp [idx t]
  have i1 : ((((cfg0.win 4).blk t).view.emb (ix2 y0 y1)) 1).val = y1.val := by blk_simp [idx t]
  generalize ((cfg0.win 4).blk t).view.emb (ix2 y0 y1) = z at i0 i1 ⊢
  idx_vars z
  obtain rfl : z1 = y1 := Fin.ext i1
  have l0 : z0.val < 8192 := z0.isLt
  exact (out_at m c t y0 z1 ⟨z0.val, by omega⟩ i0).trans (ref_at _ _ _ z0 z1).symm

end Cert.Head

end
-- ==== Proof.Taps.lean ====
/-
  The hyena's filters: every block of the kernel's result is the reference's filters at the block's place.
-/
module

public import proofs.«01_k».proof.Proof.Gen.TapsKernelIdeal.Value
public import proofs.«01_k».proof.Proof.Gen.TapsReferenceIdeal.Read
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Taps

open Idealize.ShloMosaic Idealize.ShloMosaic.TcCoe Idealize.SL.Sem Cert.TapsKernelIdeal Cert.TapsKernelIdeal.Gen
open Cert.TapsReferenceIdeal.Read

variable (m : (ℓ : Loc nD τ sig) → Buf (Elt Ideal) ℓ) (c : Dev nD)

/-- The features of the positions. -/
abbrev A0 : FVec Ideal S16384x17 .f32 := m ((c : Thread nD τ).loc main_arg0)
/-- The positions. -/
abbrev A1 : FVec Ideal S16384 .f32 := m ((c : Thread nD τ).loc main_arg1)
/-- The channels' decays. -/
abbrev A2 : FVec Ideal S2048 .f32 := m ((c : Thread nD τ).loc main_arg2)
/-- The first layer's weights. -/
abbrev A3 : FVec Ideal S17x64 .f32 := m ((c : Thread nD τ).loc main_arg3)
/-- The first layer's bias. -/
abbrev A4 : FVec Ideal S64 .f32 := m ((c : Thread nD τ).loc main_arg4)
/-- The second layer's weights. -/
abbrev A5 : FVec Ideal S64x64 .f32 := m ((c : Thread nD τ).loc main_arg5)
/-- The second layer's bias. -/
abbrev A6 : FVec Ideal S64 .f32 := m ((c : Thread nD τ).loc main_arg6)
/-- The last layer's weights. -/
abbrev A7 : FVec Ideal S64x8192 .f32 := m ((c : Thread nD τ).loc main_arg7)
/-- The frequencies of the sines. -/
abbrev A8 : FVec Ideal S64 .f32 := m ((c : Thread nD τ).loc main_arg8)

/-- Which blocks a grid point reads and writes. -/
theorem idx : ∀ t : Fin cfg0.N,
    win0_0.index t = ![t.val / 2, 0] ∧ win0_1.index t = ![t.val / 2, 0] ∧ win0_2.index t = ![0, 0] ∧ win0_3.index t = ![0, 0]
    ∧ win0_4.index t = ![0, 0] ∧ win0_5.index t = ![0, 0] ∧ win0_6.index t = ![0, 0]
    ∧ win0_7.index t = ![t.val / 32 * 2 + t.val % 2, 0, 0] ∧ win0_8.index t = ![0, 0] ∧ win0_9.index t = ![t.val % 2, t.val / 2, 0] :=
  (by decide +kernel : ∀ t : Fin grid0.N, _)

/-- A hidden layer at an index: the sine of a frequency times a row's product with a column plus a bias. -/
def layer {n : ℕ} (x : Fin n → EReal) (w : Fin n → Fin 64 → EReal) (b f : Fin 64 → EReal) (j : Fin 64) : EReal :=
  Ideal.sin (f j * (∑ k, x k * w k j + b j))

/-- The hidden layers a point computes, at an index. -/
theorem hid_at (x : FVec Ideal S512x32 .f32) (w : FVec Ideal S32x64 .f32) (f b : FVec Ideal S1x64 .f32) (u : FVec Ideal S64x64 .f32)
    (g d : FVec Ideal S1x64 .f32) (r : Fin 512) (j : Fin 64) :
    k0_pay2 (F := Ideal) x w f b u g d (ix2 r j)
      = layer (layer (fun k => x (ix2 r k)) (fun k j => w (ix2 k j)) (fun j => b (ix2 0 j)) (fun j => f (ix2 0 j)))
        (fun k j => u (ix2 k j)) (fun j => d (ix2 0 j)) (fun j => g (ix2 0 j)) j := by
  pointwise [k0_pay2, layer]

/-- The filters a point computes, at an index: a product under the window. -/
theorem filt_at (h : FVec Ideal S512x64 .bf16) (w : FVec Ideal S1x64x2048 .f32) (v : FVec Ideal S512x2048 .f32) (u : Fin 1) (r : Fin 512) (n : Fin 2048) :
    k0_pay1 (F := Ideal) h w v (ix3 u r n) = (∑ k, h (ix2 r k) * w (ix3 0 k n)) * v (ix2 r n) := by
  pointwise [k0_pay1]

/-- The features the launch reads, with columns of zeros behind. -/
theorem v0_entry : (V m c main_v0 : FVec Ideal S16384x32 .f32)
    = pad S16384x32 ![0, 0] ![0, 15] ![0, 0] (A0 m c) (sitofp (F := Ideal) .f32 (constantI S_ 32 0#32)) pads_S16384x17_S16384x32_000_0150 h_S_ := by
  unfold V
  simp only [hostOps0, hostOps0_1, hostOps0_2, hostOps0_3, hostOps0_4, List.flatten_cons, List.flatten_nil, List.cons_append, List.nil_append]
  after_results
  rfl

/-- The positions the launch reads, repeated along the lanes. -/
theorem v2_entry : (V m c main_v2 : FVec Ideal S16384x128 .f32)
    = broadcastInDim S16384x128 ![0, 1] bcast_S16384x1_S16384x128_0_1 (broadcastInDim S16384x1 ![0] bcast_S16384_S16384x1_0 (A1 m c)) := by
  unfold V
  simp only [hostOps0, hostOps0_1, hostOps0_2, hostOps0_3, hostOps0_4, List.flatten_cons, List.flatten_nil, List.cons_append, List.nil_append]
  after_results

/-- The first layer's weights the launch reads, with rows of zeros behind. -/
theorem v3_entry : (V m c main_v3 : FVec Ideal S32x64 .f32)
    = pad S32x64 ![0, 0] ![15, 0] ![0, 0] (A3 m c) (sitofp (F := Ideal) .f32 (constantI S_ 32 0#32)) pads_S17x64_S32x64_0150_000 h_S_ := by
  unfold V
  simp only [hostOps0, hostOps0_1, hostOps0_2, hostOps0_3, hostOps0_4, List.flatten_cons, List.flatten_nil, List.cons_append, List.nil_append]
  after_results
  rfl

/-- The last layer's weights the launch reads, direction and order first. -/
theorem v5_entry : (V m c main_v5 : FVec Ideal S4x64x2048 .f32)
    = transpose S4x64x2048 [1, 0, 2] (shapeCast S64x4x2048 (A7 m c) shapeCasts_S64x8192_S64x4x2048) transposes_S64x4x2048_S4x64x2048_1_0_2 := by
  unfold V
  simp only [hostOps0, hostOps0_1, hostOps0_2, hostOps0_3, hostOps0_4, List.flatten_cons, List.flatten_nil, List.cons_append, List.nil_append]
  after_results
  rfl

/-- The first layer's bias the launch reads. -/
theorem v6_entry : (V m c main_v6 : FVec Ideal S1x64 .f32) = broadcastInDim S1x64 ![1] bcast_S64_S1x64_1 (A4 m c) := by
  unfold V
  simp only [hostOps0, hostOps0_1, hostOps0_2, hostOps0_3, hostOps0_4, List.flatten_cons, List.flatten_nil, List.cons_append, List.nil_append]
  after_results

/-- The second layer's bias the launch reads. -/
theorem v7_entry : (V m c main_v7 : FVec Ideal S1x64 .f32) = broadcastInDim S1x64 ![1] bcast_S64_S1x64_1 (A6 m c) := by
  unfold V
  simp only [hostOps0, hostOps0_1, hostOps0_2, hostOps0_3, hostOps0_4, List.flatten_cons, List.flatten_nil, List.cons_append, List.nil_append]
  after_results

/-- The frequencies the launch reads. -/
theorem v8_entry : (V m c main_v8 : FVec Ideal S1x64 .f32) = broadcastInDim S1x64 ![1] bcast_S64_S1x64_1 (A8 m c) := by
  unfold V
  simp only [hostOps0, hostOps0_1, hostOps0_2, hostOps0_3, hostOps0_4, List.flatten_cons, List.flatten_nil, List.cons_append, List.nil_append]
  after_results

/-- The decays the launch reads. -/
theorem v9_entry : (V m c main_v9 : FVec Ideal S1x2048 .f32) = broadcastInDim S1x2048 ![1] bcast_S2048_S1x2048_1 (A2 m c) := by
  unfold V
  simp only [hostOps0, hostOps0_1, hostOps0_2, hostOps0_3, hostOps0_4, List.flatten_cons, List.flatten_nil, List.cons_append, List.nil_append]
  after_results

/-- The integer zero, made a number, is zero. -/
theorem int_zero : (FloatOps.sitofp (F := Ideal) .f32 (0#32) : EReal) = 0 := by
  simp [FloatOps.sitofp]

/-- An entry of the features' block. -/
theorem x_read (t : Fin cfg0.N) (r : Fin 512) (k : Fin 32) (R : Fin 16384) (hR : R.val = t.val / 2 * 512 + r.val) :
    (iblk m c 0 t : Vec Ideal S512x32 .f32) (ix2 r k) = if h : k.val < 17 then A0 m c (ix2 R ⟨k.val, h⟩) else 0 := by
  have e : (iblk m c 0 t : Vec Ideal S512x32 .f32) (ix2 r k) = (V m c main_v0 : FVec Ideal S16384x32 .f32) (ix2 R k) := by
    blk_ext [iblk, idx t]
  rw [e, v0_entry]
  pointwise
  rw [int_zero]

/-- An entry of the positions' block. -/
theorem pos_read (t : Fin cfg0.N) (r : Fin 512) (l : Fin 128) (R : Fin 16384) (hR : R.val = t.val / 2 * 512 + r.val) :
    (iblk m c 1 t : Vec Ideal S512x128 .f32) (ix2 r l) = A1 m c (ix1 R) := by
  have e : (iblk m c 1 t : Vec Ideal S512x128 .f32) (ix2 r l) = (V m c main_v2 : FVec Ideal S16384x128 .f32) (ix2 R l) := by
    blk_ext [iblk, idx t]
  rw [e, v2_entry]
  pointwise

/-- An entry of the first layer's weights. -/
theorem w1_read (t : Fin cfg0.N) (k : Fin 32) (j : Fin 64) :
    (iblk m c 2 t : Vec Ideal S32x64 .f32) (ix2 k j) = if h : k.val < 17 then A3 m c (ix2 ⟨k.val, h⟩ j) else 0 := by
  have e : (iblk m c 2 t : Vec Ideal S32x64 .f32) (ix2 k j) = (V m c main_v3 : FVec Ideal S32x64 .f32) (ix2 k j) := by
    blk_ext [iblk, idx t]
  rw [e, v3_entry]
  pointwise
  rw [int_zero]

/-- An entry of the first layer's bias. -/
theorem b1_read (t : Fin cfg0.N) (j : Fin 64) : (iblk m c 3 t : Vec Ideal S1x64 .f32) (ix2 0 j) = A4 m c (ix1 j) := by
  have e : (iblk m c 3 t : Vec Ideal S1x64 .f32) (ix2 0 j) = (V m c main_v6 : FVec Ideal S1x64 .f32) (ix2 0 j) := by
    blk_ext [iblk, idx t]
  rw [e, v6_entry]
  pointwise

/-- An entry of the second layer's weights. -/
theorem w2_read (t : Fin cfg0.N) (k j : Fin 64) : (iblk m c 4 t : Vec Ideal S64x64 .f32) (ix2 k j) = A5 m c (ix2 k j) := by
  have e : (iblk m c 4 t : Vec Ideal S64x64 .f32) (ix2 k j) = (V m c main_arg5 : FVec Ideal S64x64 .f32) (ix2 k j) := by
    blk_ext [iblk, idx t]
  rw [e, V_main_arg5]

/-- An entry of the second layer's bias. -/
theorem b2_read (t : Fin cfg0.N) (j : Fin 64) : (iblk m c 5 t : Vec Ideal S1x64 .f32) (ix2 0 j) = A6 m c (ix1 j) := by
  have e : (iblk m c 5 t : Vec Ideal S1x64 .f32) (ix2 0 j) = (V m c main_v7 : FVec Ideal S1x64 .f32) (ix2 0 j) := by
    blk_ext [iblk, idx t]
  rw [e, v7_entry]
  pointwise

/-- A frequency of the sines. -/
theorem freq_read (t : Fin cfg0.N) (j : Fin 64) : (iblk m c 6 t : Vec Ideal S1x64 .f32) (ix2 0 j) = A8 m c (ix1 j) := by
  have e : (iblk m c 6 t : Vec Ideal S1x64 .f32) (ix2 0 j) = (V m c main_v8 : FVec Ideal S1x64 .f32) (ix2 0 j) := by
    blk_ext [iblk, idx t]
  rw [e, v8_entry]
  pointwise

/-- An entry of the last layer's weights. -/
theorem w3_read (t : Fin cfg0.N) (k : Fin 64) (n : Fin 2048) (N : Fin 8192) (hN : N.val = (t.val / 32 * 2 + t.val % 2) * 2048 + n.val) :
    (iblk m c 7 t : Vec Ideal S1x64x2048 .f32) (ix3 0 k n) = A7 m c (ix2 k N) := by
  have hl : t.val < 64 := t.isLt
  have e : (iblk m c 7 t : Vec Ideal S1x64x2048 .f32) (ix3 0 k n)
      = (V m c main_v5 : FVec Ideal S4x64x2048 .f32) (ix3 ⟨t.val / 32 * 2 + t.val % 2, by omega⟩ k n) := by
    blk_ext [iblk, idx t]
  rw [e, v5_entry]
  pointwise
  exact congrArg (fun N => A7 m c (ix2 k N)) (Fin.ext hN.symm)

/-- A channel's decay. -/
theorem decay_read (t : Fin cfg0.N) (n : Fin 2048) : (iblk m c 8 t : Vec Ideal S1x2048 .f32) (ix2 0 n) = A2 m c (ix1 n) := by
  have e : (iblk m c 8 t : Vec Ideal S1x2048 .f32) (ix2 0 n) = (V m c main_v9 : FVec Ideal S1x2048 .f32) (ix2 0 n) := by
    blk_ext [iblk, idx t]
  rw [e, v9_entry]
  pointwise

/-- The window of a channel at a position. -/
def fade (p d : EReal) : EReal := Ideal.exp (-p * d) + FloatOps.ofBits (F := Ideal) .f32 0x3D4CCCCD#32

/-- The window from the blocks the kernel reads. -/
theorem fade_of (t : Fin cfg0.N) (r r' : Fin 512) (n n' : Fin 2048) (R : Fin 16384) (hR : R.val = t.val / 2 * 512 + r.val) {l : Fin 128}
    (hr : r.val = r'.val) (hn : n.val = n'.val) :
    Ideal.exp ((0 - (iblk m c 1 t : Vec Ideal S512x128 .f32) (ix2 r' l)) * (iblk m c 8 t : Vec Ideal S1x2048 .f32) (ix2 0 n'))
      + Ideal.ofBits .f32 0x3D4CCCCD#32 = fade (A1 m c (ix1 R)) (A2 m c (ix1 n)) := by
  obtain rfl : n = n' := Fin.ext hn
  rw [pos_read m c t r' l R (by omega), decay_read m c t n, zero_sub]
  rfl

/-- The window the first of two points leaves for the second. -/
theorem win_left (t : Fin cfg0.N) (h : t.val % 2 = 0) (r : Fin 512) (n : Fin 2048) (R : Fin 16384) (hR : R.val = t.val / 2 * 512 + r.val) :
   (outsAt0 m c t.val t.isLt).2.2 (ix2 r n) = fade (A1 m c (ix1 R)) (A2 m c (ix1 n)) := by
  rw [outsAt0_A m c t h]
  frame_out
  canon_tiles x hx
  all_goals open_payloads
  all_goals idx_vars x
  all_goals pointwise
  all_goals exact fade_of m c t r _ n _ R hR hx0 hx1

/-- A sum of products of which the places from 17 on are zero. -/
theorem sum_pad (x w : Fin 17 → EReal) :
    (∑ k : Fin 32, (if h : k.val < 17 then x ⟨k.val, h⟩ else 0) * (if h : k.val < 17 then w ⟨k.val, h⟩ else 0)) = ∑ k, x k * w k := by
  refine (Fin.sum_univ_add (a := 17) (b := 15) _).trans ?_
  simp

/-- The reference's hidden layers at an index. -/
theorem ref_hid (x : FVec Ideal S16384x17 .f32) (w : FVec Ideal S17x64 .f32) (b : FVec Ideal S64 .f32) (u : FVec Ideal S64x64 .f32)
    (d f : FVec Ideal S64 .f32) (R : Fin 16384) (j : Fin 64) :
    val_main_v15 (F := Ideal) x w b u d f (ix2 R j)
      = layer (layer (fun k => x (ix2 R k)) (fun k j => w (ix2 k j)) (fun j => b (ix1 j)) (fun j => f (ix1 j)))
        (fun k j => u (ix2 k j)) (fun j => d (ix1 j)) (fun j => f (ix1 j)) j := by
  pointwise [val_main_v15, val_main_v14, val_main_v13, val_main_v12, val_main_v11, val_main_v10, val_main_v9,
    val_main_v8, val_main_v7, val_main_v6, val_main_v5, val_main_v4, val_main_v3, val_main_v2, val_main_v1, val_main_v0, layer]

/-- An array of columns at two equal columns. -/
theorem col_congr (v : FVec Ideal S64x8192 .f32) (k : Fin 64) {a b : Fin 8192} (h : a.val = b.val) : v (ix2 k a) = v (ix2 k b) := by
  rw [Fin.ext h]

/-- The reference's filters at an index. -/
theorem ref_at (x : FVec Ideal S16384x17 .f32) (p : FVec Ideal S16384 .f32) (e : FVec Ideal S2048 .f32) (w : FVec Ideal S17x64 .f32)
    (b : FVec Ideal S64 .f32) (u : FVec Ideal S64x64 .f32) (d : FVec Ideal S64 .f32) (v : FVec Ideal S64x8192 .f32) (f : FVec Ideal S64 .f32)
    (o : Fin 2) (R : Fin 16384) (n : Fin 2048) :
    val_main_v35 (F := Ideal) x p e w b u d v f (ix3 o R n)
      = (∑ k, val_main_v15 (F := Ideal) x w b u d f (ix2 R k) * v (ix2 k ⟨(R.val / 8192 * 2 + o.val) * 2048 + n.val, by omega⟩))
        * fade (p (ix1 R)) (e (ix1 n)) := by
  pointwise [val_main_v35, val_main_v34, val_main_v33, val_main_v32, val_main_v31, val_main_v30, val_main_v29, val_main_v28,
   val_main_v27, val_main_v26, val_main_v25, val_main_v24, val_main_v23, val_main_v22, val_main_v21, val_main_v20, val_main_v19, val_main_v18, val_main_v17, val_main_v16, fade]
  refine congrArg₂ (· * ·) ?_ rfl
  have hR := R.isLt
  split_ifs with h
  · refine Finset.sum_congr rfl fun k _ => congrArg₂ (· * ·) rfl (col_congr v k ?_)
    show o.val * 2048 + n.val = (R.val / 8192 * 2 + o.val) * 2048 + n.val
    omega
  · refine Finset.sum_congr rfl fun k _ => congrArg₂ (· * ·) (congrArg (fun R => val_main_v15 (F := Ideal) x w b u d f (ix2 R k)) (Fin.ext ?_)) (col_congr v k ?_)
    · show 8192 + (R.val - 8192) = R.val
      omega
    · show 4096 + o.val * 2048 + n.val = (R.val / 8192 * 2 + o.val) * 2048 + n.val
      omega
  · rename_i h'
    exact absurd rfl h'

/-- The hidden layers the first of two points leaves for the second. -/
theorem hid_left (t : Fin cfg0.N) (h : t.val % 2 = 0) (r : Fin 512) (j : Fin 64) (R : Fin 16384) (hR : R.val = t.val / 2 * 512 + r.val) :
    (outsAt0 m c t.val t.isLt).2.1 (ix2 r j)
      = val_main_v15 (F := Ideal) (A0 m c) (A3 m c) (A4 m c) (A5 m c) (A6 m c) (A8 m c) (ix2 R j) := by
  rw [outsAt0_A m c t h]
  frame_out
  refine (hid_at _ _ _ _ _ _ _ r j).trans (Eq.trans ?_ (ref_hid _ _ _ _ _ _ R j).symm)
  unfold layer
  simp only [freq_read m c t, b1_read m c t, b2_read m c t, w2_read m c t, x_read m c t r _ R hR, w1_read m c t]
  refine congrArg (fun f : EReal => Ideal.sin (A8 m c (ix1 j) * (f + A6 m c (ix1 j)))) (Finset.sum_congr rfl fun k _ => ?_)
  refine congrArg (fun f : EReal => Ideal.sin (A8 m c (ix1 k) * (f + A4 m c (ix1 k))) * A5 m c (ix2 k j)) ?_
  exact sum_pad (fun i => A0 m c (ix2 R i)) (fun i => A3 m c (ix2 i k))

/-- The scratch buffers at any point hold the hidden layer and the window of the point's rows. -/
theorem scratch_at (t : Fin cfg0.N) (r : Fin 512) (R : Fin 16384) (hR : R.val = t.val / 2 * 512 + r.val) (s : Fin cfg0.N)
    (hs : s.val = t.val / 2 * 2) :
    (∀ j, (outsAt0 m c s.val s.isLt).2.1 (ix2 r j)
      = val_main_v15 (F := Ideal) (A0 m c) (A3 m c) (A4 m c) (A5 m c) (A6 m c) (A8 m c) (ix2 R j))
    ∧ ∀ n, (outsAt0 m c s.val s.isLt).2.2 (ix2 r n) = fade (A1 m c (ix1 R)) (A2 m c (ix1 n)) :=
  ⟨fun j => hid_left m c s (by omega) r j R (by omega), fun n => win_left m c s (by omega) r n R (by omega)⟩

/-- What a point leaves in the result's block, over what its row's first point left in the scratch buffers. -/
theorem out_left (t s : Fin cfg0.N) (hs : s.val = t.val / 2 * 2) :
    (outsAt0 m c t.val t.isLt).1
      = k0_pay1 (F := Ideal) (outsAt0 m c s.val s.isLt).2.1 (iblk m c 7 t) (outsAt0 m c s.val s.isLt).2.2 := by
  by_cases h : t.val % 2 = 0
  · obtain rfl : s = t := Fin.ext (by omega)
    rw [outsAt0_A m c s h]
    frame_out
    refine congrArg (k0_pay1 (F := Ideal) _ _) ?_
    rw [View.readCov_eq_canon']
    funext j
    refine congrArg (View.canon _) ?_
    idx_vars j
    funext a
    refine Fin.ext ((Rect.idx_unit_val _ _ _ _ a).trans ?_)
    match a with
    | ⟨0, _⟩ => exact Nat.zero_add _
    | ⟨1, _⟩ => exact Nat.zero_add _
  · have e : t.val - 1 = s.val := by omega
    rw [outsAt0_B m c t h]
    frame_out
    simp only [read_unread_whole, e]

/-- The result array after the run. -/
theorem final : (dats m 0 c).arrAt 9 (cfgs 0).N
    = val_main_v35 (F := Ideal) (A0 m c) (A1 m c) (A2 m c) (A3 m c) (A4 m c) (A5 m c) (A6 m c) (A7 m c) (A8 m c) := by
  refine (dats m 0 c).arrAt_eq_of_covers 9 _ (by decide +kernel) fun t _ y => ?_
  blk_simp
  rw [after0_9]
  have hl : t.val < 64 := t.isLt
  rw [out_left m c t ⟨t.val / 2 * 2, by show _ < 64; omega⟩ rfl]
  idx_vars y
  have i0 : ((((cfg0.win 9).blk t).view.emb (ix3 y0 y1 y2)) 0).val = t.val % 2 + y0.val := by blk_simp [idx t]
  have i1 : ((((cfg0.win 9).blk t).view.emb (ix3 y0 y1 y2)) 1).val = t.val / 2 * 512 + y1.val := by blk_simp [idx t]
  have i2 : ((((cfg0.win 9).blk t).view.emb (ix3 y0 y1 y2)) 2).val = y2.val := by blk_simp [idx t]
  generalize ((cfg0.win 9).blk t).view.emb (ix3 y0 y1 y2) = z at i0 i1 i2 ⊢
  idx_vars z
  obtain rfl : z2 = y2 := Fin.ext i2
  have hy : y0.val < 1 := y0.isLt
  have l1 : y1.val < 512 := y1.isLt
  have l2 : z2.val < 2048 := z2.isLt
  have hi0 : z0.val = t.val % 2 + y0.val := i0
  have hi1 : z1.val = t.val / 2 * 512 + y1.val := i1
  obtain ⟨hh, hw⟩ := scratch_at m c t y1 z1 i1 ⟨t.val / 2 * 2, by show _ < 64; omega⟩ rfl
  refine (filt_at _ _ _ y0 y1 z2).trans (Eq.trans ?_ (ref_at _ _ _ _ _ _ _ _ _ z0 z1 z2).symm)
  refine congrArg₂ (· * ·) (Finset.sum_congr rfl fun k _ => congrArg₂ (· * ·) (hh k) ?_) (hw z2)
  refine w3_read m c t k z2 _ ?_
  show (z1.val / 8192 * 2 + z0.val) * 2048 + z2.val = _
  omega

end Cert.Taps

end
-- ==== Proof.Mod.lean ====
/-
  The modulation: the host writes the two conditioning rows over zeros, the launch multiplies all eight rows, and the
  rows nobody wrote come out zero.
-/
module

public import proofs.«01_k».proof.Proof.Gen.ModKernelIdeal.Value
public import proofs.«01_k».proof.Proof.Gen.ModReferenceIdeal.Read
public import Idealize.ShloMosaic.Lib.Pointwise
public import Idealize.ShloMosaic.Lib.Routing.OpsSet
public import Idealize.ShloMosaic.Lib.Routing.OpsPair
public import Idealize.ShloMosaic.Lib.Pipeline.ReadBack
public import Idealize.ShloMosaic.Lib.Pipeline.ValueKit

@[expose] public section

set_option maxRecDepth 16384

noncomputable section

namespace Cert.Mod

open Idealize.ShloMosaic Idealize.ShloMosaic.TcCoe Idealize.SL.Sem Cert.ModKernelIdeal Cert.ModKernelIdeal.Gen
open Cert.ModReferenceIdeal.Read

variable (m : (ℓ : Loc nD τ sig) → Buf (Elt Ideal) ℓ) (c : Dev nD)

/-- The conditioning row of the latents. -/
abbrev A0 : FVec Ideal S1x2048 .f32 := m ((c : Thread nD τ).loc main_arg0)
/-- The conditioning row of the context. -/
abbrev A1 : FVec Ideal S2048 .f32 := m ((c : Thread nD τ).loc main_arg1)
/-- The weights. -/
abbrev A2 : FVec Ideal S2048x12288 .f32 := m ((c : Thread nD τ).loc main_arg2)

/-- Which blocks a grid point works on: all rows, and the point's own columns. -/
theorem idx : ∀ t : Fin cfg0.N,
    win0_0.index t = ![0, 0] ∧ win0_1.index t = ![0, t.val] ∧ win0_2.index t = ![0, t.val] :=
  (by decide +kernel : ∀ t : Fin grid0.N, _)

/-- A block's product at an index. -/
theorem pay_at (x : FVec Ideal S8x2048 .f32) (w : FVec Ideal S2048x1024 .f32) (r : Fin 8) (n : Fin 1024) :
    k0_pay1 (F := Ideal) x w (ix2 r n) = ∑ k : Fin 2048, x (ix2 r k) * w (ix2 k n) := by
  pointwise [k0_pay1]

/-- An element of the written row lands in the row the index names, at its own column. -/
theorem lands (a : IVec S1 32) (k : S2048.Idx) (r : Fin 8) (n : Fin 2048) :
    scatter_S8x2048_S1_S2048_0_0_0_0.resultIdx? k a = some (ix2 r n)
      ↔ (a (ix1 0)).toInt = (r.val : Int) ∧ (k 0).val = n.val := by
  have hs : scatter_S8x2048_S1_S2048_0_0_0_0.start k a 0 = (a (ix1 0)).toInt := by
    refine (dif_pos (by decide)).trans (congrArg (fun i => (a i).toInt) ?_)
    funext b
    match b with
    | ⟨0, _⟩ => exact Subsingleton.elim (α := Fin 1) _ _
  have hw : scatter_S8x2048_S1_S2048_0_0_0_0.window k 0 = 0 := dif_neg (by decide)
  have hs' : scatter_S8x2048_S1_S2048_0_0_0_0.start k a 1 = 0 := dif_neg (by decide)
  have hw' : scatter_S8x2048_S1_S2048_0_0_0_0.window k 1 = (k 0).val := dif_pos (by decide)
  refine (Routing.resultIdx?_ix2 _ k a r n).trans ?_
  rw [hs, hw, hs', hw']
  omega

/-- A row set over a matrix, at an index: the row where the index word is the row's number, else the matrix. -/
theorem set_row (x : FVec Ideal S8x2048 .f32) (a : IVec S1 32) (u : FVec Ideal S2048 .f32) (r : Fin 8) (n : Fin 2048) :
    Host.scatter scatter_S8x2048_S1_S2048_0_0_0_0 (fun _ b => b) x a u (ix2 r n)
      = if (a (ix1 0)).toInt = (r.val : Int) then u (ix1 n) else x (ix2 r n) := by
  by_cases h : (a (ix1 0)).toInt = (r.val : Int)
  · rw [if_pos h]
    refine Routing.scatter_set_hit _ x a u (ix2 r n) _ (fun k hk => ?_) (ix1 n) ((lands a _ r n).2 ⟨h, rfl⟩)
    have e := ((lands a k r n).1 hk).2
    idx_vars k
    obtain rfl : k0 = n := Fin.ext e
    rfl
  · rw [if_neg h]
    exact Routing.scatter_set_miss _ x a u (ix2 r n) fun k hk => h ((lands a k r n).1 hk).1

/-- A number times its logistic. -/
def sil (x : EReal) : EReal := x * Ideal.div 1 (1 + Ideal.exp (-x))

/-- The rows the launch reads: both conditioning rows, each times its logistic, set over zeros. -/
theorem v7_entry : (V m c main_v7 : FVec Ideal S8x2048 .f32)
    = Host.scatter scatter_S8x2048_S1_S2048_0_0_0_0 (fun _ b => b)
        (Host.scatter scatter_S8x2048_S1_S2048_0_0_0_0 (fun _ b => b)
          (broadcastInDim S8x2048 ![] bcast_S_S8x2048 (constant (F := Ideal) S_ .f32 0x00000000#32))
          (broadcastInDim S1 ![] bcast_S_S1 (constantI S_ 32 0#32))
          (mulf (shapeCast S2048 (A0 m c) shapeCasts_S1x2048_S2048)
            (Host.divf (broadcastInDim S2048 ![] bcast_S_S2048 (constant (F := Ideal) S_ .f32 0x3F800000#32))
              (addf (broadcastInDim S2048 ![] bcast_S_S2048 (constant (F := Ideal) S_ .f32 0x3F800000#32))
                (Host.exp (Host.negf (shapeCast S2048 (A0 m c) shapeCasts_S1x2048_S2048)))))))
        (broadcastInDim S1 ![] bcast_S_S1 (constantI S_ 32 1#32))
        (mulf (A1 m c)
          (Host.divf (broadcastInDim S2048 ![] bcast_S_S2048 (constant (F := Ideal) S_ .f32 0x3F800000#32))
            (addf (broadcastInDim S2048 ![] bcast_S_S2048 (constant (F := Ideal) S_ .f32 0x3F800000#32))
              (Host.exp (Host.negf (A1 m c)))))) := by
  unfold V
  simp only [hostOps0, hostOps0_1, hostOps0_2, hostOps0_3, hostOps0_4, List.flatten_cons, List.flatten_nil, List.cons_append, List.nil_append]
  after_results
  rfl

/-- A vector times its logistic, as the host computes it, at an index. -/
theorem sil_at (u : FVec Ideal S2048 .f32) (n : Fin 2048) :
    mulf u (Host.divf (broadcastInDim S2048 ![] bcast_S_S2048 (constant (F := Ideal) S_ .f32 0x3F800000#32))
      (addf (broadcastInDim S2048 ![] bcast_S_S2048 (constant (F := Ideal) S_ .f32 0x3F800000#32)) (Host.exp (Host.negf u)))) (ix1 n)
      = sil (u (ix1 n)) := by
  pointwise [sil]

/-- The rows the launch reads, at an index. -/
theorem rows_at (r : Fin 8) (k : Fin 2048) : (V m c main_v7 : FVec Ideal S8x2048 .f32) (ix2 r k)
    = if r.val = 1 then sil (A1 m c (ix1 k)) else if r.val = 0 then sil (A0 m c (ix2 0 k)) else 0 := by
  have e0 : ((broadcastInDim S1 ![] bcast_S_S1 (constantI S_ 32 0#32) : IVec S1 32) (ix1 0)).toInt = 0 := rfl
  have e1 : ((broadcastInDim S1 ![] bcast_S_S1 (constantI S_ 32 1#32) : IVec S1 32) (ix1 0)).toInt = 1 := rfl
  have ez : (broadcastInDim S8x2048 ![] bcast_S_S8x2048 (constant (F := Ideal) S_ .f32 0x00000000#32) : FVec Ideal S8x2048 .f32) (ix2 r k) = 0 :=
    Ideal.ofBits_zero .f32
  have ec : (shapeCast S2048 (A0 m c) shapeCasts_S1x2048_S2048 : FVec Ideal S2048 .f32) (ix1 k) = A0 m c (ix2 0 k) := by pointwise
  rw [v7_entry, set_row, set_row, sil_at, sil_at, e0, e1, ez, ec]
  exact if_congr (by omega) rfl (if_congr (by omega) rfl rfl)

/-- The reference's result at an index. -/
theorem ref_at (x0 : FVec Ideal S1x2048 .f32) (x1 : FVec Ideal S2048 .f32) (x2 : FVec Ideal S2048x12288 .f32) (r : Fin 8) (n : Fin 12288) :
    val_main_v6 (F := Ideal) x0 x1 x2 (ix2 r n)
      = ∑ k : Fin 2048, (if r.val = 1 then sil (x1 (ix1 k)) else if r.val = 0 then sil (x0 (ix2 0 k)) else 0) * x2 (ix2 k n) := by
  pointwise [val_main_v6, val_main_v1, val_main_v4, val_main_v0, val_main_v3, val_main_v2,
    val_main_call0_v5, val_main_call0_v4, val_main_call0_v3, val_main_call0_v2, val_main_call0_v1, val_main_call0_v0, val_main_call0_cst, val_main_call0_cst_0,
    val_main_call1_v5, val_main_call1_v4, val_main_call1_v3, val_main_call1_v2, val_main_call1_v1, val_main_call1_v0, val_main_call1_cst, val_main_call1_cst_0,
    val_main_v5, val_main_cst, sil]
  by_cases h : r.val < 1
  · refine (dif_pos h).trans (Finset.sum_congr rfl fun k _ => congrArg (· * x2 (ix2 k n)) ?_)
    refine Eq.trans ?_ ((if_neg (by omega)).trans (if_pos (by omega))).symm
    rw [show (⟨r.val, h⟩ : Fin 1) = 0 from Subsingleton.elim _ _]
  · refine (dif_neg h).trans ?_
    by_cases h' : r.val - 1 < 1
    · refine (dif_pos h').trans (Finset.sum_congr rfl fun k _ => congrArg (· * x2 (ix2 k n)) ?_)
      exact (if_pos (by omega)).symm
    · refine (dif_neg h').trans (Finset.sum_eq_zero fun k _ => ?_).symm
      refine (congrArg (· * x2 (ix2 k n)) ((if_neg (by omega)).trans (if_neg (by omega)))).trans (zero_mul _)

/-- A block of the rows is all the rows. -/
theorem x_read (t : Fin cfg0.N) (r : Fin 8) (k : Fin 2048) :
    (iblk m c 0 t : Vec Ideal S8x2048 .f32) (ix2 r k) = (V m c main_v7 : FVec Ideal S8x2048 .f32) (ix2 r k) := by
  blk_ext [iblk, idx t]

/-- A block of the weights is their columns at the point. -/
theorem w_read (t : Fin cfg0.N) (k : Fin 2048) (n : Fin 1024) (N : Fin 12288) (hN : N.val = t.val * 1024 + n.val) :
    (iblk m c 1 t : Vec Ideal S2048x1024 .f32) (ix2 k n) = A2 m c (ix2 k N) := by
  have e : (iblk m c 1 t : Vec Ideal S2048x1024 .f32) (ix2 k n) = (V m c main_arg2 : FVec Ideal S2048x12288 .f32) (ix2 k N) := by
    blk_ext [iblk, idx t]
  rw [e, V_main_arg2]

/-- The launch's output array is the reference's result. -/
theorem final : (dats m 0 c).arrAt 2 (cfgs 0).N = val_main_v6 (F := Ideal) (A0 m c) (A1 m c) (A2 m c) := by
  refine (dats m 0 c).arrAt_eq_of_covers 2 _ (by decide +kernel) fun t _ y => ?_
  blk_simp
  rw [after0_2]
  frame_out
  idx_vars y
  have i0 : ((((cfg0.win 2).blk t).view.emb (ix2 y0 y1)) 0).val = y0.val := by blk_simp [idx t]
  have i1 : ((((cfg0.win 2).blk t).view.emb (ix2 y0 y1)) 1).val = t.val * 1024 + y1.val := by blk_simp [idx t]
  generalize ((cfg0.win 2).blk t).view.emb (ix2 y0 y1) = z at i0 i1 ⊢
  idx_vars z
  obtain rfl : z0 = y0 := Fin.ext i0
  refine (pay_at _ _ z0 y1).trans (Eq.trans ?_ (ref_at _ _ _ z0 z1).symm)
  exact Finset.sum_congr rfl fun k _ => congrArg₂ (· * ·) ((x_read m c t z0 k).trans (rows_at m c z0 k)) (w_read m c t k y1 z1 i1)

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalKernelIdeal.Value
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.QueryKernel
public import proofs.«01_k».proof.Proof.Gen.QueryKernel.Skeleton
public import proofs.«01_k».proof.Proof.Gen.QueryKernel.Launch
public import proofs.«01_k».proof.Proof.Gen.QueryKernel.Points
public import proofs.«01_k».proof.Proof.Gen.QueryKernel.Frame
public import proofs.«01_k».proof.Proof.Gen.QueryKernelIdeal
public import proofs.«01_k».proof.Proof.Gen.QueryKernelIdeal.Skeleton
public import proofs.«01_k».proof.Proof.Gen.QueryKernelIdeal.Launch
public import proofs.«01_k».proof.Proof.Gen.QueryKernelIdeal.Points
public import proofs.«01_k».proof.Proof.Gen.QueryKernelIdeal.Frame
public import proofs.«01_k».proof.Proof.Gen.QueryKernelIdeal.Value
public import proofs.«01_k».proof.Proof.Gen.QueryReferenceIdeal
public import proofs.«01_k».proof.Proof.Gen.QueryReferenceIdeal.Run
public import proofs.«01_k».proof.Proof.Gen.QueryReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.SeqKernel
public import proofs.«01_k».proof.Proof.Gen.SeqKernel.Skeleton
public import proofs.«01_k».proof.Proof.Gen.SeqKernel.Launch
public import proofs.«01_k».proof.Proof.Gen.SeqKernel.Points
public import proofs.«01_k».proof.Proof.Gen.SeqKernel.Frame
public import proofs.«01_k».proof.Proof.Gen.SeqKernelIdeal
public import proofs.«01_k».proof.Proof.Gen.SeqKernelIdeal.Skeleton
public import proofs.«01_k».proof.Proof.Gen.SeqKernelIdeal.Launch
public import proofs.«01_k».proof.Proof.Gen.SeqKernelIdeal.Points
public import proofs.«01_k».proof.Proof.Gen.SeqKernelIdeal.Frame
public import proofs.«01_k».proof.Proof.Gen.SeqKernelIdeal.Value
public import proofs.«01_k».proof.Proof.Gen.SeqReferenceIdeal
public import proofs.«01_k».proof.Proof.Gen.SeqReferenceIdeal.Run
public import proofs.«01_k».proof.Proof.Gen.SeqReferenceIdeal.Read
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.HeadKernelIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.Gen.TapsKernel
public import proofs.«01_k».proof.Proof.Gen.TapsKernel.Skeleton
public import proofs.«01_k».proof.Proof.Gen.TapsKernel.Launch
public import proofs.«01_k».proof.Proof.Gen.TapsKernel.Points
public import proofs.«01_k».proof.Proof.Gen.TapsKernel.Frame
public import proofs.«01_k».proof.Proof.Gen.TapsKernelIdeal
public import proofs.«01_k».proof.Proof.Gen.TapsKernelIdeal.Skeleton
public import proofs.«01_k».proof.Proof.Gen.TapsKernelIdeal.Launch
public import proofs.«01_k».proof.Proof.Gen.TapsKernelIdeal.Points
public import proofs.«01_k».proof.Proof.Gen.TapsKernelIdeal.Frame
public import proofs.«01_k».proof.Proof.Gen.TapsKernelIdeal.Value
public import proofs.«01_k».proof.Proof.Gen.TapsReferenceIdeal
public import proofs.«01_k».proof.Proof.Gen.TapsReferenceIdeal.Run
public import proofs.«01_k».proof.Proof.Gen.TapsReferenceIdeal.Read
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModKernelIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.Pre_finite
public import proofs.«01_k».proof.Proof.Finite
public import proofs.«01_k».proof.Proof.RefOut
public import proofs.«01_k».proof.Proof.In
public import proofs.«01_k».proof.Proof.Merge
public import proofs.«01_k».proof.Proof.Final
public import proofs.«01_k».proof.Proof.Query
public import proofs.«01_k».proof.Proof.Out
public import proofs.«01_k».proof.Proof.Conv
public import proofs.«01_k».proof.Proof.Seq
public import proofs.«01_k».proof.Proof.Head
public import proofs.«01_k».proof.Proof.Taps
public import proofs.«01_k».proof.Proof.Mod
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The scan and its reference end with equal results. -/
theorem mlstm_algebraic : Cert.algebraic_KernelIdeal_ReferenceIdeal_pre_finite := by
  pair_intro
  · run_from Cert.KernelIdeal.Value.run_blocks m g
  · run_from Cert.ReferenceIdeal.Value.run m' g'
    obtain ⟨h0, h1, h2⟩ := Cert.Mlstm.finite_real _ _ _ (hpre c)
    rw [Cert.ReferenceIdeal.Read.val_main_v88_eq, (hagree c).1, (hagree c).2.1, (hagree c).2.2]
    exact (Cert.Mlstm.ref_out _ _ _ h0 h1 h2).trans (Cert.Mlstm.final m c h0 h1 h2).symm

/-- The mixer's inputs and their reference end with equal results. -/
theorem in_algebraic : Cert.algebraic_InKernelIdeal_InReferenceIdeal := by
  pair_intro
  · run_from Cert.In.run m g
  · run_from Cert.InReferenceIdeal.Value.run m' g'
    rw [Cert.InReferenceIdeal.Read.val_main_v60_eq, (hagree c).1, (hagree c).2.1, (hagree c).2.2.1, (hagree c).2.2.2.1, (hagree c).2.2.2.2]
    exact (Cert.In.final m g c).symm

/-- The merge of the branches and its reference end with equal results. -/
theorem merge_algebraic : Cert.algebraic_MergeKernelIdeal_MergeReferenceIdeal := by
  pair_intro
  · run_from Cert.MergeKernelIdeal.Value.run_blocks m g
  · run_from Cert.MergeReferenceIdeal.Value.run m' g'
    rw [Cert.MergeReferenceIdeal.Read.val_main_v21_eq]
    exact (Cert.Merge.final m c).symm

/-- The last norm and its reference end with equal results. -/
theorem final_algebraic : Cert.algebraic_FinalKernelIdeal_FinalReferenceIdeal := by
  pair_intro
  · run_from Cert.FinalKernelIdeal.Value.run_blocks m g
  · run_from Cert.FinalReferenceIdeal.Value.run m' g'
    rw [Cert.FinalReferenceIdeal.Read.val_main_v18_eq]
    exact (Cert.Final.final m c).symm

/-- The projection to queries and its reference end with equal results. -/
theorem query_algebraic : Cert.algebraic_QueryKernelIdeal_QueryReferenceIdeal := by
  pair_intro
  · run_from Cert.QueryKernelIdeal.Value.run_blocks m g
  · run_from Cert.QueryReferenceIdeal.Value.run m' g'
    rw [Cert.QueryReferenceIdeal.Read.val_main_v2_eq]
    exact (Cert.Query.final m c).symm

/-- The output projection and its reference end with equal results. -/
theorem out_algebraic : Cert.algebraic_OutKernelIdeal_OutReferenceIdeal := by
  pair_intro
  · run_from Cert.OutKernelIdeal.Value.run_blocks m g
  · run_from Cert.OutReferenceIdeal.Value.run m' g'
    · rw [Cert.OutReferenceIdeal.Read.val_main_v7_eq]
      exact (Cert.Out.final_sum m c).symm
    · rw [Cert.OutReferenceIdeal.Read.val_main_v33_eq]
      exact (Cert.Out.final_norm m c).symm

/-- The convolution over the latents' grid and its reference end with equal results. -/
theorem conv_algebraic : Cert.algebraic_ConvKernelIdeal_ConvReferenceIdeal := by
  pair_intro
  · run_from Cert.ConvKernelIdeal.Value.run_blocks m g
  · run_from Cert.ConvReferenceIdeal.Value.run m' g'
    refine (Cert.ConvReferenceIdeal.Read.val_main_v99_eq _ _).trans ?_
    rw [(hagree c).1, (hagree c).2]
    exact (Cert.Conv.final m c).symm

/-- The convolution along the sequence and its reference end with equal results. -/
theorem seq_algebraic : Cert.algebraic_SeqKernelIdeal_SeqReferenceIdeal := by
  pair_intro
  · run_from Cert.SeqKernelIdeal.Value.run_blocks m g
  · run_from Cert.SeqReferenceIdeal.Value.run m' g'
    rw [Cert.SeqReferenceIdeal.Read.val_main_v21_eq]
    exact (Cert.Seq.final m c).symm

/-- The norm over each head and its reference end with equal results. -/
theorem head_algebraic : Cert.algebraic_HeadKernelIdeal_HeadReferenceIdeal := by
  pair_intro
  · run_from Cert.HeadKernelIdeal.Value.run_blocks m g
  · run_from Cert.HeadReferenceIdeal.Value.run m' g'
    rw [Cert.HeadReferenceIdeal.Read.val_main_v28_eq]
    exact (Cert.Head.final m c).symm

/-- The hyena's filters and their reference end with equal results. -/
theorem taps_algebraic : Cert.algebraic_TapsKernelIdeal_TapsReferenceIdeal := by
  pair_intro
  · run_from Cert.TapsKernelIdeal.Value.run_blocks m g
  · run_from Cert.TapsReferenceIdeal.Value.run m' g'
    rw [Cert.TapsReferenceIdeal.Read.val_main_v35_eq]
    obtain ⟨-, -, -, e3, e4, e5, e6, e7, e8⟩ := hagree c
    rw [e3, e4, e5, e6, e7, e8]
    exact (Cert.Taps.final m c).symm

/-- The modulation and its reference end with equal results. -/
theorem mod_algebraic : Cert.algebraic_ModKernelIdeal_ModReferenceIdeal := by
  pair_intro
  · run_from Cert.ModKernelIdeal.Value.run_blocks m g
  · run_from Cert.ModReferenceIdeal.Value.run m' g'
    rw [Cert.ModReferenceIdeal.Read.val_main_v6_eq, (hagree c).2.2]
    exact (Cert.Mod.final m c).symm

/-- The scan's reference runs, keeps its arguments and ends quiescent. -/
theorem reference_frame : Cert.quiescent_ReferenceIdeal := by
  intro m g _
  exact (θ_run Cert.ReferenceIdeal.defs _ _).mono (fun r h => ⟨fun c => (h c).2, sem_eq_zero_of_no_sems (by decide) _⟩)
    (Cert.ReferenceIdeal.Value.run m g)

/-- The inputs' reference runs, keeps its arguments and ends quiescent. -/
theorem in_reference_frame : Cert.quiescent_InReferenceIdeal := by
  intro m g _
  exact (θ_run Cert.InReferenceIdeal.defs _ _).mono (fun r h => ⟨fun c => (h c).2, sem_eq_zero_of_no_sems (by decide) _⟩)
    (Cert.InReferenceIdeal.Value.run m g)

/-- The merge's reference runs, keeps its arguments and ends quiescent. -/
theorem merge_reference_frame : Cert.quiescent_MergeReferenceIdeal := by
  intro m g _
  exact (θ_run Cert.MergeReferenceIdeal.defs _ _).mono (fun r h => ⟨fun c => (h c).2, sem_eq_zero_of_no_sems (by decide) _⟩)
    (Cert.MergeReferenceIdeal.Value.run m g)

/-- The last norm's reference runs, keeps its arguments and ends quiescent. -/
theorem final_reference_frame : Cert.quiescent_FinalReferenceIdeal := by
  intro m g _
  exact (θ_run Cert.FinalReferenceIdeal.defs _ _).mono (fun r h => ⟨fun c => (h c).2, sem_eq_zero_of_no_sems (by decide) _⟩)
    (Cert.FinalReferenceIdeal.Value.run m g)

/-- The queries' reference runs, keeps its arguments and ends quiescent. -/
theorem query_reference_frame : Cert.quiescent_QueryReferenceIdeal := by
  intro m g _
  exact (θ_run Cert.QueryReferenceIdeal.defs _ _).mono (fun r h => ⟨fun c => (h c).2, sem_eq_zero_of_no_sems (by decide) _⟩)
    (Cert.QueryReferenceIdeal.Value.run m g)

/-- The output projection's reference runs, keeps its arguments and ends quiescent. -/
theorem out_reference_frame : Cert.quiescent_OutReferenceIdeal := by
  intro m g _
  exact (θ_run Cert.OutReferenceIdeal.defs _ _).mono (fun r h => ⟨fun c => (h c).2.2, sem_eq_zero_of_no_sems (by decide) _⟩)
    (Cert.OutReferenceIdeal.Value.run m g)

/-- The convolution over the latents' grid: its reference runs, keeps its arguments and ends quiescent. -/
theorem conv_reference_frame : Cert.quiescent_ConvReferenceIdeal := by
  intro m g _
  exact (θ_run Cert.ConvReferenceIdeal.defs _ _).mono (fun r h => ⟨fun c => (h c).2, sem_eq_zero_of_no_sems (by decide) _⟩)
    (Cert.ConvReferenceIdeal.Value.run m g)

/-- The convolution along the sequence: its reference runs, keeps its arguments and ends quiescent. -/
theorem seq_reference_frame : Cert.quiescent_SeqReferenceIdeal := by
  intro m g _
  exact (θ_run Cert.SeqReferenceIdeal.defs _ _).mono (fun r h => ⟨fun c => (h c).2, sem_eq_zero_of_no_sems (by decide) _⟩)
    (Cert.SeqReferenceIdeal.Value.run m g)

/-- The norm over each head: its reference runs, keeps its arguments and ends quiescent. -/
theorem head_reference_frame : Cert.quiescent_HeadReferenceIdeal := by
  intro m g _
  exact (θ_run Cert.HeadReferenceIdeal.defs _ _).mono (fun r h => ⟨fun c => (h c).2, sem_eq_zero_of_no_sems (by decide) _⟩)
    (Cert.HeadReferenceIdeal.Value.run m g)

/-- The hyena's filters' reference runs, keeps its arguments and ends quiescent. -/
theorem taps_reference_frame : Cert.quiescent_TapsReferenceIdeal := by
  intro m g _
  exact (θ_run Cert.TapsReferenceIdeal.defs _ _).mono (fun r h => ⟨fun c => (h c).2, sem_eq_zero_of_no_sems (by decide) _⟩)
    (Cert.TapsReferenceIdeal.Value.run m g)

/-- The modulation's reference runs, keeps its arguments and ends quiescent. -/
theorem mod_reference_frame : Cert.quiescent_ModReferenceIdeal := by
  intro m g _
  exact (θ_run Cert.ModReferenceIdeal.defs _ _).mono (fun r h => ⟨fun c => (h c).2, sem_eq_zero_of_no_sems (by decide) _⟩)
    (Cert.ModReferenceIdeal.Value.run m g)

/-- Everything that is claimed. -/
theorem claim : Cert.Claim := ⟨Cert.Kernel.Gen.facts, Cert.KernelIdeal.Gen.facts, Cert.ReferenceIdeal.Gen.facts, Cert.InKernel.Gen.facts, Cert.InKernelIdeal.Gen.facts, Cert.InReferenceIdeal.Gen.facts, Cert.MergeKernel.Gen.facts, Cert.MergeKernelIdeal.Gen.facts, Cert.MergeReferenceIdeal.Gen.facts, Cert.FinalKernel.Gen.facts, Cert.FinalKernelIdeal.Gen.facts, Cert.FinalReferenceIdeal.Gen.facts, Cert.QueryKernel.Gen.facts, Cert.QueryKernelIdeal.Gen.facts, Cert.QueryReferenceIdeal.Gen.facts, Cert.OutKernel.Gen.facts, Cert.OutKernelIdeal.Gen.facts, Cert.OutReferenceIdeal.Gen.facts, Cert.ConvKernel.Gen.facts, Cert.ConvKernelIdeal.Gen.facts, Cert.ConvReferenceIdeal.Gen.facts, Cert.SeqKernel.Gen.facts, Cert.SeqKernelIdeal.Gen.facts, Cert.SeqReferenceIdeal.Gen.facts, Cert.HeadKernel.Gen.facts, Cert.HeadKernelIdeal.Gen.facts, Cert.HeadReferenceIdeal.Gen.facts, Cert.TapsKernel.Gen.facts, Cert.TapsKernelIdeal.Gen.facts, Cert.TapsReferenceIdeal.Gen.facts, Cert.ModKernel.Gen.facts, Cert.ModKernelIdeal.Gen.facts, Cert.ModReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.InKernel.Gen.frame m ρ,
  fun m ρ _ => Cert.InKernelIdeal.Gen.frame m ρ,
  in_reference_frame,
  fun m ρ _ => Cert.MergeKernel.Gen.frame m ρ,
  fun m ρ _ => Cert.MergeKernelIdeal.Gen.frame m ρ,
  merge_reference_frame,
  fun m ρ _ => Cert.FinalKernel.Gen.frame m ρ,
  fun m ρ _ => Cert.FinalKernelIdeal.Gen.frame m ρ,
  final_reference_frame,
  fun m ρ _ => Cert.QueryKernel.Gen.frame m ρ,
  fun m ρ _ => Cert.QueryKernelIdeal.Gen.frame m ρ,
  query_reference_frame,
  fun m ρ _ => Cert.OutKernel.Gen.frame m ρ,
  fun m ρ _ => Cert.OutKernelIdeal.Gen.frame m ρ,
  out_reference_frame,
  fun m ρ _ => Cert.ConvKernel.Gen.frame m ρ,
  fun m ρ _ => Cert.ConvKernelIdeal.Gen.frame m ρ,
  conv_reference_frame,
  fun m ρ _ => Cert.SeqKernel.Gen.frame m ρ,
  fun m ρ _ => Cert.SeqKernelIdeal.Gen.frame m ρ,
  seq_reference_frame,
  fun m ρ _ => Cert.HeadKernel.Gen.frame m ρ,
  fun m ρ _ => Cert.HeadKernelIdeal.Gen.frame m ρ,
  head_reference_frame,
  fun m ρ _ => Cert.TapsKernel.Gen.frame m ρ,
  fun m ρ _ => Cert.TapsKernelIdeal.Gen.frame m ρ,
  taps_reference_frame,
  fun m ρ _ => Cert.ModKernel.Gen.frame m ρ,
  fun m ρ _ => Cert.ModKernelIdeal.Gen.frame m ρ,
  mod_reference_frame,
  IdealRules.named_const.statement Cert.KernelIdeal.κ "state_min" .f32 0xF149F2CA#32 ⊥ rfl,
  mlstm_algebraic,
  trivial,
  in_algebraic,
  trivial,
  merge_algebraic,
  trivial,
  final_algebraic,
  trivial,
  query_algebraic,
  trivial,
  out_algebraic,
  trivial,
  conv_algebraic,
  trivial,
  seq_algebraic,
  trivial,
  head_algebraic,
  trivial,
  taps_algebraic,
  trivial,
  mod_algebraic⟩

end Cert.Proof

end
